-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_fit [hPre_scales_fit : Cert.Pre_scales_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit [hPre_scales_fit : Cert.Pre_scales_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_fit [hKernelIdeal : Cert.KernelIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_fit [hReferenceIdeal : Cert.ReferenceIdeal.Facts] [hPre_scales_fit : Cert.Pre_scales_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_fit [hKernelIdeal : Cert.KernelIdeal.Facts] [hReferenceIdeal : Cert.ReferenceIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_fit : Cert.Pre_scales_fit.Facts),
    quiescent_Kernel (hKernel := hKernel)
    ∧ quiescent_KernelIdeal (hKernelIdeal := hKernelIdeal)
    ∧ quiescent_KernelIdeal_pre_scales_fit (hKernelIdeal := hKernelIdeal) (hPre_scales_fit := hPre_scales_fit)
    ∧ quiescent_ReferenceIdeal (hReferenceIdeal := hReferenceIdeal)
    ∧ quiescent_ReferenceIdeal_pre_scales_fit (hReferenceIdeal := hReferenceIdeal) (hPre_scales_fit := hPre_scales_fit)
    ∧ preserves_Kernel_KernelIdeal
    ∧ algebraic_KernelIdeal_ReferenceIdeal_pre_scales_fit (hKernelIdeal := hKernelIdeal) (hReferenceIdeal := hReferenceIdeal) (hPre_scales_fit := hPre_scales_fit)
-- ==== Pre_scales_fit.lean ====
abbrev S8x6x4096x256 : Shape := ⟨4, ![8, 6, 4096, 256]⟩
abbrev S8x6x32 : Shape := ⟨3, ![8, 6, 32]⟩
abbrev S8x6x4096x512 : Shape := ⟨4, ![8, 6, 4096, 512]⟩
abbrev S8x6x4096 : Shape := ⟨3, ![8, 6, 4096]⟩
abbrev S_ : Shape := ⟨0, ![]⟩
abbrev S8x6x32x1 : Shape := ⟨4, ![8, 6, 32, 1]⟩
abbrev S8x6x32x128 : Shape := ⟨4, ![8, 6, 32, 128]⟩

class Facts : Prop where
  bcast_S_S8x6x32 : S_.BroadcastsInDim S8x6x32 (![] : Fin 0 → Fin S8x6x32.rank)
  bcast_S8x6x32_S8x6x32x1_0_1_2 : S8x6x32.BroadcastsInDim S8x6x32x1 (![0, 1, 2] : Fin 3 → Fin S8x6x32x1.rank)
  bcast_S_S8x6x4096 : S_.BroadcastsInDim S8x6x4096 (![] : Fin 0 → Fin S8x6x4096.rank)
  shapeCasts_S8x6x4096_S8x6x32x128 : S8x6x4096.ShapeCasts S8x6x32x128
  bcast_S8x6x32x1_S8x6x32x128_0_1_2_3 : S8x6x32x1.BroadcastsInDim S8x6x32x128 (![0, 1, 2, 3] : Fin 4 → Fin S8x6x32x128.rank)

variable [Facts]

def fn_part1 {F : FTy → Type} [FloatOps F] (main_v11 : IVec S8x6x32x1 1) (main_v17 : IVec S8x6x32x128 1) : IVec S8x6x32x128 1 :=
  let main_v18 : IVec S8x6x32x128 1 := broadcastInDim S8x6x32x128 ![0, 1, 2, 3] bcast_S8x6x32x1_S8x6x32x128_0_1_2_3 main_v11
  let main_v19 : IVec S8x6x32x128 1 := andi main_v18 main_v17
  main_v19

def fn {F : FTy → Type} [FloatOps F] (main_arg0 : FVec F S8x6x4096x256 .fp8e4m3) (main_arg1 : FVec F S8x6x32 .f32) (main_arg2 : FVec F S8x6x4096x256 .fp8e4m3) (main_arg3 : FVec F S8x6x32 .f32) (main_arg4 : FVec F S8x6x4096x512 .fp8e4m3) (main_arg5 : FVec F S8x6x32 .f32) (main_arg6 : FVec F S8x6x4096x512 .fp8e5m2) (main_arg7 : FVec F S8x6x4096 .f32) : IVec S8x6x32x128 1 :=
  let main_cst : FVec F S_ .f32 := constant S_ .f32 0x00000000#32
  let main_v0 : FVec F S8x6x32 .f32 := broadcastInDim S8x6x32 ![] bcast_S_S8x6x32 main_cst
  let main_v1 : IVec S8x6x32 1 := cmpf .oge main_arg3 main_v0
  let main_cst_0 : FVec F S_ .f32 := constant S_ .f32 0x7F800000#32
  let main_v2 : FVec F S8x6x32 .f32 := broadcastInDim S8x6x32 ![] bcast_S_S8x6x32 main_cst_0
  let main_v3 : IVec S8x6x32 1 := cmpf .olt main_arg3 main_v2
  let main_v4 : IVec S8x6x32 1 := andi main_v1 main_v3
  let main_cst_1 : FVec F S_ .f32 := constant S_ .f32 0x00000000#32
  let main_v5 : FVec F S8x6x32 .f32 := broadcastInDim S8x6x32 ![] bcast_S_S8x6x32 main_cst_1
  let main_v6 : IVec S8x6x32 1 := cmpf .oge main_arg5 main_v5
  let main_v7 : IVec S8x6x32 1 := andi main_v4 main_v6
  let main_cst_2 : FVec F S_ .f32 := constant S_ .f32 0x7F800000#32
  let main_v8 : FVec F S8x6x32 .f32 := broadcastInDim S8x6x32 ![] bcast_S_S8x6x32 main_cst_2
  let main_v9 : IVec S8x6x32 1 := cmpf .olt main_arg5 main_v8
  let main_v10 : IVec S8x6x32 1 := andi main_v7 main_v9
  let main_v11 : IVec S8x6x32x1 1 := broadcastInDim S8x6x32x1 ![0, 1, 2] bcast_S8x6x32_S8x6x32x1_0_1_2 main_v10
  let main_cst_3 : FVec F S_ .f32 := constant S_ .f32 0x00000000#32
  let main_v12 : FVec F S8x6x4096 .f32 := broadcastInDim S8x6x4096 ![] bcast_S_S8x6x4096 main_cst_3
  let main_v13 : IVec S8x6x4096 1 := cmpf .oge main_arg7 main_v12
  let main_cst_4 : FVec F S_ .f32 := constant S_ .f32 0x7F800000#32
  let main_v14 : FVec F S8x6x4096 .f32 := broadcastInDim S8x6x4096 ![] bcast_S_S8x6x4096 main_cst_4
  let main_v15 : IVec S8x6x4096 1 := cmpf .olt main_arg7 main_v14
  let main_v16 : IVec S8x6x4096 1 := andi main_v13 main_v15
  let main_v17 : IVec S8x6x32x128 1 := shapeCast S8x6x32x128 main_v16 shapeCasts_S8x6x4096_S8x6x32x128
  fn_part1 (F := F) main_v11 main_v17
-- ==== Kernel.lean ====
abbrev S8x6x4096x256 : Shape := ⟨4, ![8, 6, 4096, 256]⟩
abbrev S8x6x32 : Shape := ⟨3, ![8, 6, 32]⟩
abbrev S8x6x4096x512 : Shape := ⟨4, ![8, 6, 4096, 512]⟩
abbrev S8x6x4096 : Shape := ⟨3, ![8, 6, 4096]⟩
abbrev S48x32 : Shape := ⟨2, ![48, 32]⟩
abbrev S48x4096x256 : Shape := ⟨3, ![48, 4096, 256]⟩
abbrev S48x4096x512 : Shape := ⟨3, ![48, 4096, 512]⟩
abbrev S48x32x128 : Shape := ⟨3, ![48, 32, 128]⟩
abbrev S1x4096x256 : Shape := ⟨3, ![1, 4096, 256]⟩
abbrev S1x4096x512 : Shape := ⟨3, ![1, 4096, 512]⟩
abbrev S1x32x128 : Shape := ⟨3, ![1, 32, 128]⟩
abbrev S512x256 : Shape := ⟨2, ![512, 256]⟩
abbrev S256x512 : Shape := ⟨2, ![256, 512]⟩
abbrev S32x128x128 : Shape := ⟨3, ![32, 128, 128]⟩
abbrev S128x128 : Shape := ⟨2, ![128, 128]⟩
abbrev S1x1 : Shape := ⟨2, ![1, 1]⟩
abbrev S1x1x128 : Shape := ⟨3, ![1, 1, 128]⟩
abbrev S1x128 : Shape := ⟨2, ![1, 128]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S1x128x128 : Shape := ⟨3, ![1, 128, 128]⟩
abbrev S256x128 : Shape := ⟨2, ![256, 128]⟩

abbrev nBuf : Space → Nat
  | .hbm => 19
  | .vmem => 24
  | .smem => 3
  | _ => 0

abbrev bufTy : (tb : Table) → Fin (tcTables nBuf tb) → BufTy
  | .hbm, ⟨0, _⟩ => ⟨S8x6x4096x256, .fp8e4m3⟩
  | .hbm, ⟨1, _⟩ => ⟨S8x6x32, .f32⟩
  | .hbm, ⟨2, _⟩ => ⟨S8x6x4096x256, .fp8e4m3⟩
  | .hbm, ⟨3, _⟩ => ⟨S8x6x32, .f32⟩
  | .hbm, ⟨4, _⟩ => ⟨S8x6x4096x512, .fp8e4m3⟩
  | .hbm, ⟨5, _⟩ => ⟨S8x6x32, .f32⟩
  | .hbm, ⟨6, _⟩ => ⟨S8x6x4096x512, .fp8e5m2⟩
  | .hbm, ⟨7, _⟩ => ⟨S8x6x4096, .f32⟩
  | .hbm, ⟨8, _⟩ => ⟨S48x32, .f32⟩
  | .hbm, ⟨9, _⟩ => ⟨S48x32, .f32⟩
  | .hbm, ⟨10, _⟩ => ⟨S48x32, .f32⟩
  | .hbm, ⟨11, _⟩ => ⟨S48x4096x256, .fp8e4m3⟩
  | .hbm, ⟨12, _⟩ => ⟨S48x4096x256, .fp8e4m3⟩
  | .hbm, ⟨13, _⟩ => ⟨S48x4096x512, .fp8e4m3⟩
  | .hbm, ⟨14, _⟩ => ⟨S48x4096x512, .fp8e5m2⟩
  | .hbm, ⟨15, _⟩ => ⟨S48x32x128, .f32⟩
  | .hbm, ⟨16, _⟩ => ⟨S48x4096x256, .bf16⟩
  | .hbm, ⟨17, _⟩ => ⟨S48x4096x256, .bf16⟩
  | .hbm, ⟨18, _⟩ => ⟨S48x4096x512, .bf16⟩
  | .local _ .vmem, ⟨0, _⟩ => ⟨S1x4096x256, .fp8e4m3⟩
  | .local _ .vmem, ⟨1, _⟩ => ⟨S1x4096x256, .fp8e4m3⟩
  | .local _ .vmem, ⟨2, _⟩ => ⟨S1x4096x256, .fp8e4m3⟩
  | .local _ .vmem, ⟨3, _⟩ => ⟨S1x4096x256, .fp8e4m3⟩
  | .local _ .vmem, ⟨4, _⟩ => ⟨S1x4096x512, .fp8e4m3⟩
  | .local _ .vmem, ⟨5, _⟩ => ⟨S1x4096x512, .fp8e4m3⟩
  | .local _ .vmem, ⟨6, _⟩ => ⟨S1x4096x512, .fp8e5m2⟩
  | .local _ .vmem, ⟨7, _⟩ => ⟨S1x4096x512, .fp8e5m2⟩
  | .local _ .vmem, ⟨8, _⟩ => ⟨S1x32x128, .f32⟩
  | .local _ .vmem, ⟨9, _⟩ => ⟨S1x32x128, .f32⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x4096x512, .bf16⟩
  | .local _ .vmem, ⟨15, _⟩ => ⟨S1x4096x512, .bf16⟩
  | .local _ .vmem, ⟨16, _⟩ => ⟨S512x256, .f32⟩
  | .local _ .vmem, ⟨17, _⟩ => ⟨S512x256, .bf16⟩
  | .local _ .vmem, ⟨18, _⟩ => ⟨S256x512, .f32⟩
  | .local _ .vmem, ⟨19, _⟩ => ⟨S256x512, .bf16⟩
  | .local _ .vmem, ⟨20, _⟩ => ⟨S512x256, .bf16⟩
  | .local _ .vmem, ⟨21, _⟩ => ⟨S32x128x128, .bf16⟩
  | .local _ .vmem, ⟨22, _⟩ => ⟨S32x128x128, .bf16⟩
  | .local _ .vmem, ⟨23, _⟩ => ⟨S32x128x128, .bf16⟩
  | .local _ .smem, ⟨0, _⟩ => ⟨S48x32, .f32⟩
  | .local _ .smem, ⟨1, _⟩ => ⟨S48x32, .f32⟩
  | .local _ .smem, ⟨2, _⟩ => ⟨S48x32, .f32⟩
  | _, _ => ⟨S8x6x4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c8_i32 : BitVec 32 := 8#32
  let v23 : BitVec 32 := Scalar.addi c0_i32 c8_i32
  let c1_i32 : BitVec 32 := 1#32
  ⟨c0_i32, v23, c1_i32⟩
def k0_off1 (i : grid0.Coords) (k0_t1 : Fin k0_t1_loop.trips) (c0_i32_19 : BitVec 32) : Fin 2 → Nat :=
  let arg0 : BitVec 32 := BitVec.ofNat 32 (i 0).val
  let v29 : Index := Scalar.indexCast arg0
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let v28 : BitVec 32 := Scalar.addi v27 c0_i32_19
  let v30 : Index := Scalar.indexCast v28
  ![v29.toNat, v30.toNat]
def k0_off2 (k0_t1 : Fin k0_t1_loop.trips) (c0_i32_19 : BitVec 32) : Fin 3 → Nat :=
  let c0_20 : Index := 0#32
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let v28 : BitVec 32 := Scalar.addi v27 c0_i32_19
  let v38 : Index := Scalar.indexCast v28
  let c0_21 : Index := 0#32
  ![0, v38.toNat, 0]
def k0_mult1 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let c0_i32_19 : BitVec 32 := 0#32
  let v28 : BitVec 32 := Scalar.addi v27 c0_i32_19
  let c128_i32 : BitVec 32 := 128#32
  let v41 : BitVec 32 := Scalar.muli v28 c128_i32
  v41
def k0_off3 (k0_t1 : Fin k0_t1_loop.trips) (c0_i32_19 : BitVec 32) : Fin 3 → Nat :=
  let c0_22 : Index := 0#32
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let v28 : BitVec 32 := Scalar.addi v27 c0_i32_19
  let c128_i32 : BitVec 32 := 128#32
  let v41 : BitVec 32 := Scalar.muli v28 c128_i32
  let v42 : BitVec 32 := v41
  let v43 : Index := Scalar.indexCast v42
  let c0_23 : Index := 0#32
  ![0, v43.toNat, 0]
def k0_mult2 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let c0_i32_19 : BitVec 32 := 0#32
  let v28 : BitVec 32 := Scalar.addi v27 c0_i32_19
  let c128_i32_24 : BitVec 32 := 128#32
  let v46 : BitVec 32 := Scalar.muli v28 c128_i32_24
  v46
def k0_mult3 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let c0_i32_19 : BitVec 32 := 0#32
  let v28 : BitVec 32 := Scalar.addi v27 c0_i32_19
  let c128_i32_29 : BitVec 32 := 128#32
  let v54 : BitVec 32 := Scalar.muli v28 c128_i32_29
  v54
def k0_off4 (k0_t1 : Fin k0_t1_loop.trips) (c0_i32_19 : BitVec 32) : Fin 3 → Nat :=
  let c0_30 : Index := 0#32
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let v28 : BitVec 32 := Scalar.addi v27 c0_i32_19
  let c128_i32_29 : BitVec 32 := 128#32
  let v54 : BitVec 32 := Scalar.muli v28 c128_i32_29
  let v55 : BitVec 32 := v54
  let v56 : Index := Scalar.indexCast v55
  let c0_31 : Index := 0#32
  ![0, v56.toNat, 0]
def k0_mult4 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let c0_i32_19 : BitVec 32 := 0#32
  let v28 : BitVec 32 := Scalar.addi v27 c0_i32_19
  let c128_i32_32 : BitVec 32 := 128#32
  let v59 : BitVec 32 := Scalar.muli v28 c128_i32_32
  v59
def k0_off5 (k0_t1 : Fin k0_t1_loop.trips) (c0_i32_19 : BitVec 32) : Fin 3 → Nat :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32 : BitVec 32 := 4#32
  let v27 : BitVec 32 := Scalar.muli v26 c4_i32
  let v28 : BitVec 32 := Scalar.addi v27 c0_i32_19
  let v72 : Index := Scalar.indexCast v28
  let c0_37 : Index := 0#32
  let c0_38 : Index := 0#32
  ![v72.toNat, 0, 0]
def k0_mult5 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_43 : BitVec 32 := 4#32
  let v94 : BitVec 32 := Scalar.muli v26 c4_i32_43
  let c1_i32_44 : BitVec 32 := 1#32
  let v95 : BitVec 32 := Scalar.addi v94 c1_i32_44
  let c128_i32_47 : BitVec 32 := 128#32
  let v108 : BitVec 32 := Scalar.muli v95 c128_i32_47
  v108
def k0_mult6 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_43 : BitVec 32 := 4#32
  let v94 : BitVec 32 := Scalar.muli v26 c4_i32_43
  let c1_i32_44 : BitVec 32 := 1#32
  let v95 : BitVec 32 := Scalar.addi v94 c1_i32_44
  let c128_i32_50 : BitVec 32 := 128#32
  let v113 : BitVec 32 := Scalar.muli v95 c128_i32_50
  v113
def k0_mult7 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_43 : BitVec 32 := 4#32
  let v94 : BitVec 32 := Scalar.muli v26 c4_i32_43
  let c1_i32_44 : BitVec 32 := 1#32
  let v95 : BitVec 32 := Scalar.addi v94 c1_i32_44
  let c128_i32_55 : BitVec 32 := 128#32
  let v121 : BitVec 32 := Scalar.muli v95 c128_i32_55
  v121
def k0_mult8 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_43 : BitVec 32 := 4#32
  let v94 : BitVec 32 := Scalar.muli v26 c4_i32_43
  let c1_i32_44 : BitVec 32 := 1#32
  let v95 : BitVec 32 := Scalar.addi v94 c1_i32_44
  let c128_i32_58 : BitVec 32 := 128#32
  let v126 : BitVec 32 := Scalar.muli v95 c128_i32_58
  v126
def k0_mult9 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_69 : BitVec 32 := 4#32
  let v161 : BitVec 32 := Scalar.muli v26 c4_i32_69
  let c2_i32 : BitVec 32 := 2#32
  let v162 : BitVec 32 := Scalar.addi v161 c2_i32
  let c128_i32_72 : BitVec 32 := 128#32
  let v175 : BitVec 32 := Scalar.muli v162 c128_i32_72
  v175
def k0_mult10 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_69 : BitVec 32 := 4#32
  let v161 : BitVec 32 := Scalar.muli v26 c4_i32_69
  let c2_i32 : BitVec 32 := 2#32
  let v162 : BitVec 32 := Scalar.addi v161 c2_i32
  let c128_i32_75 : BitVec 32 := 128#32
  let v180 : BitVec 32 := Scalar.muli v162 c128_i32_75
  v180
def k0_mult11 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_69 : BitVec 32 := 4#32
  let v161 : BitVec 32 := Scalar.muli v26 c4_i32_69
  let c2_i32 : BitVec 32 := 2#32
  let v162 : BitVec 32 := Scalar.addi v161 c2_i32
  let c128_i32_80 : BitVec 32 := 128#32
  let v188 : BitVec 32 := Scalar.muli v162 c128_i32_80
  v188
def k0_mult12 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_69 : BitVec 32 := 4#32
  let v161 : BitVec 32 := Scalar.muli v26 c4_i32_69
  let c2_i32 : BitVec 32 := 2#32
  let v162 : BitVec 32 := Scalar.addi v161 c2_i32
  let c128_i32_83 : BitVec 32 := 128#32
  let v193 : BitVec 32 := Scalar.muli v162 c128_i32_83
  v193
def k0_mult13 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_94 : BitVec 32 := 4#32
  let v228 : BitVec 32 := Scalar.muli v26 c4_i32_94
  let c3_i32 : BitVec 32 := 3#32
  let v229 : BitVec 32 := Scalar.addi v228 c3_i32
  let c128_i32_97 : BitVec 32 := 128#32
  let v242 : BitVec 32 := Scalar.muli v229 c128_i32_97
  v242
def k0_mult14 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_94 : BitVec 32 := 4#32
  let v228 : BitVec 32 := Scalar.muli v26 c4_i32_94
  let c3_i32 : BitVec 32 := 3#32
  let v229 : BitVec 32 := Scalar.addi v228 c3_i32
  let c128_i32_100 : BitVec 32 := 128#32
  let v247 : BitVec 32 := Scalar.muli v229 c128_i32_100
  v247
def k0_mult15 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_94 : BitVec 32 := 4#32
  let v228 : BitVec 32 := Scalar.muli v26 c4_i32_94
  let c3_i32 : BitVec 32 := 3#32
  let v229 : BitVec 32 := Scalar.addi v228 c3_i32
  let c128_i32_105 : BitVec 32 := 128#32
  let v255 : BitVec 32 := Scalar.muli v229 c128_i32_105
  v255
def k0_mult16 (k0_t1 : Fin k0_t1_loop.trips) : BitVec 32 :=
  let c0_i32_18 : BitVec 32 := 0#32
  let c0_i32 : BitVec 32 := 0#32
  let c1_i32 : BitVec 32 := 1#32
  let arg20 : BitVec 32 := Scf.iv c0_i32 c1_i32 k0_t1
  let c1_i32_17 : BitVec 32 := 1#32
  let v25 : BitVec 32 := Scalar.muli arg20 c1_i32_17
  let v26 : BitVec 32 := Scalar.addi c0_i32_18 v25
  let c4_i32_94 : BitVec 32 := 4#32
  let v228 : BitVec 32 := Scalar.muli v26 c4_i32_94
  let c3_i32 : BitVec 32 := 3#32
  let v229 : BitVec 32 := Scalar.addi v228 c3_i32
  let c128_i32_108 : BitVec 32 := 128#32
  let v260 : BitVec 32 := Scalar.muli v229 c128_i32_108
  v260
@[reducible] def k0_t2_loop : Scf.Loop 32 :=
  let c0_i32_14 : BitVec 32 := 0#32
  let c16_i32 : BitVec 32 := 16#32
  let v24 : BitVec 32 := Scalar.addi c0_i32_14 c16_i32
  let c1_i32_15 : BitVec 32 := 1#32
  ⟨c0_i32_14, v24, c1_i32_15⟩
def k0_off6 (i : grid0.Coords) (k0_t2 : Fin k0_t2_loop.trips) (c0_i32_19 : BitVec 32) : Fin 2 → Nat :=
  let arg0 : BitVec 32 := BitVec.ofNat 32 (i 0).val
  let v29 : Index := Scalar.indexCast arg0
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v30 : Index := Scalar.indexCast v28
  ![v29.toNat, v30.toNat]
def k0_mult17 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let c128_i32 : BitVec 32 := 128#32
  let v35 : BitVec 32 := Scalar.muli v28 c128_i32
  v35
def k0_off7 (k0_t2 : Fin k0_t2_loop.trips) (c0_i32_19 : BitVec 32) : Fin 3 → Nat :=
  let c0_20 : Index := 0#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let c128_i32 : BitVec 32 := 128#32
  let v35 : BitVec 32 := Scalar.muli v28 c128_i32
  let v36 : BitVec 32 := v35
  let v37 : Index := Scalar.indexCast v36
  let c0_21 : Index := 0#32
  ![0, v37.toNat, 0]
def k0_mult18 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let c128_i32_22 : BitVec 32 := 128#32
  let v40 : BitVec 32 := Scalar.muli v28 c128_i32_22
  v40
def k0_off8 (k0_t2 : Fin k0_t2_loop.trips) (c0_i32_19 : BitVec 32) : Fin 3 → Nat :=
  let c0_23 : Index := 0#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let c128_i32_22 : BitVec 32 := 128#32
  let v40 : BitVec 32 := Scalar.muli v28 c128_i32_22
  let v41 : BitVec 32 := v40
  let v42 : Index := Scalar.indexCast v41
  let c0_24 : Index := 0#32
  ![0, v42.toNat, 0]
def k0_mult19 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let c128_i32_25 : BitVec 32 := 128#32
  let v45 : BitVec 32 := Scalar.muli v28 c128_i32_25
  v45
def k0_off9 (k0_t2 : Fin k0_t2_loop.trips) (c0_i32_19 : BitVec 32) : Fin 3 → Nat :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v53 : Index := Scalar.indexCast v28
  let c0_31 : Index := 0#32
  let c0_32 : Index := 0#32
  ![v53.toNat, 0, 0]
def k0_off10 (k0_t2 : Fin k0_t2_loop.trips) (c0_i32_19 : BitVec 32) : Fin 3 → Nat :=
  let c0_34 : Index := 0#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v58 : Index := Scalar.indexCast v28
  let c0_35 : Index := 0#32
  ![0, v58.toNat, 0]
def k0_mult20 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let c128_i32_37 : BitVec 32 := 128#32
  let v69 : BitVec 32 := Scalar.muli v28 c128_i32_37
  v69
def k0_off11 (i : grid0.Coords) (k0_t2 : Fin k0_t2_loop.trips) (c0_i32_19 : BitVec 32) : Fin 2 → Nat :=
  let arg0 : BitVec 32 := BitVec.ofNat 32 (i 0).val
  let v89 : Index := Scalar.indexCast arg0
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v88 : BitVec 32 := Scalar.subi c31_i32 v28
  let v90 : Index := Scalar.indexCast v88
  ![v89.toNat, v90.toNat]
def k0_mult21 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_47 : BitVec 32 := 128#32
  let v98 : BitVec 32 := Scalar.muli v88 c128_i32_47
  v98
def k0_off12 (k0_t2 : Fin k0_t2_loop.trips) (c0_i32_19 : BitVec 32) : Fin 3 → Nat :=
  let c0_48 : Index := 0#32
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v88 : BitVec 32 := Scalar.subi c31_i32 v28
  let c128_i32_47 : BitVec 32 := 128#32
  let v98 : BitVec 32 := Scalar.muli v88 c128_i32_47
  let v99 : BitVec 32 := v98
  let v100 : Index := Scalar.indexCast v99
  let c0_49 : Index := 0#32
  ![0, v100.toNat, 0]
def k0_mult22 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_50 : BitVec 32 := 128#32
  let v103 : BitVec 32 := Scalar.muli v88 c128_i32_50
  v103
def k0_mult23 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_53 : BitVec 32 := 128#32
  let v108 : BitVec 32 := Scalar.muli v88 c128_i32_53
  v108
def k0_off13 (k0_t2 : Fin k0_t2_loop.trips) (c0_i32_19 : BitVec 32) : Fin 3 → Nat :=
  let c0_54 : Index := 0#32
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v88 : BitVec 32 := Scalar.subi c31_i32 v28
  let c128_i32_53 : BitVec 32 := 128#32
  let v108 : BitVec 32 := Scalar.muli v88 c128_i32_53
  let v109 : BitVec 32 := v108
  let v110 : Index := Scalar.indexCast v109
  let c0_55 : Index := 0#32
  ![0, v110.toNat, 0]
def k0_mult24 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_56 : BitVec 32 := 128#32
  let v113 : BitVec 32 := Scalar.muli v88 c128_i32_56
  v113
def k0_off14 (k0_t2 : Fin k0_t2_loop.trips) (c0_i32_19 : BitVec 32) : Fin 3 → Nat :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v88 : BitVec 32 := Scalar.subi c31_i32 v28
  let v121 : Index := Scalar.indexCast v88
  let c0_62 : Index := 0#32
  let c0_63 : Index := 0#32
  ![v121.toNat, 0, 0]
def k0_mult25 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_66 : BitVec 32 := 128#32
  let v130 : BitVec 32 := Scalar.muli v88 c128_i32_66
  v130
def k0_mult26 (k0_t2 : Fin k0_t2_loop.trips) : BitVec 32 :=
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let c0_i32_19 : BitVec 32 := 0#32
  let v28 : BitVec 32 := Scalar.addi v27 c0_i32_19
  let v88 : BitVec 32 := Scalar.subi c31_i32 v28
  let c128_i32_76 : BitVec 32 := 128#32
  let v148 : BitVec 32 := Scalar.muli v88 c128_i32_76
  v148
def k0_off15 (k0_t2 : Fin k0_t2_loop.trips) (c0_i32_19 : BitVec 32) : Fin 3 → Nat :=
  let c0_79 : Index := 0#32
  let c31_i32 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32 : BitVec 32 := 2#32
  let v27 : BitVec 32 := Scalar.muli v26 c2_i32
  let v28 : BitVec 32 := Scalar.addi v27 c0_i32_19
  let v88 : BitVec 32 := Scalar.subi c31_i32 v28
  let v156 : Index := Scalar.indexCast v88
  let c0_80 : Index := 0#32
  ![0, v156.toNat, 0]
def k0_mult27 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let c128_i32_92 : BitVec 32 := 128#32
  let v186 : BitVec 32 := Scalar.muli v179 c128_i32_92
  v186
def k0_mult28 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let c128_i32_95 : BitVec 32 := 128#32
  let v191 : BitVec 32 := Scalar.muli v179 c128_i32_95
  v191
def k0_mult29 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let c128_i32_98 : BitVec 32 := 128#32
  let v196 : BitVec 32 := Scalar.muli v179 c128_i32_98
  v196
def k0_mult30 (k0_t2 : Fin k0_t2_loop.trips) : BitVec 32 :=
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let c128_i32_110 : BitVec 32 := 128#32
  let v220 : BitVec 32 := Scalar.muli v179 c128_i32_110
  v220
def k0_mult31 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_121 : BitVec 32 := 128#32
  let v249 : BitVec 32 := Scalar.muli v239 c128_i32_121
  v249
def k0_mult32 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_124 : BitVec 32 := 128#32
  let v254 : BitVec 32 := Scalar.muli v239 c128_i32_124
  v254
def k0_mult33 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_127 : BitVec 32 := 128#32
  let v259 : BitVec 32 := Scalar.muli v239 c128_i32_127
  v259
def k0_mult34 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_130 : BitVec 32 := 128#32
  let v264 : BitVec 32 := Scalar.muli v239 c128_i32_130
  v264
def k0_mult35 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_140 : BitVec 32 := 128#32
  let v281 : BitVec 32 := Scalar.muli v239 c128_i32_140
  v281
def k0_mult36 (k0_t2 : Fin k0_t2_loop.trips) : BitVec 32 :=
  let c31_i32_120 : BitVec 32 := 31#32
  let c0_i32_18 : BitVec 32 := 0#32
  let c0_i32_14 : BitVec 32 := 0#32
  let c1_i32_15 : BitVec 32 := 1#32
  let arg20 : BitVec 32 := Scf.iv c0_i32_14 c1_i32_15 k0_t2
  let c1_i32_17 : BitVec 32 := 1#32
  let v25 : BitVec 32 := Scalar.muli arg20 c1_i32_17
  let v26 : BitVec 32 := Scalar.addi c0_i32_18 v25
  let c2_i32_90 : BitVec 32 := 2#32
  let v178 : BitVec 32 := Scalar.muli v26 c2_i32_90
  let c1_i32_91 : BitVec 32 := 1#32
  let v179 : BitVec 32 := Scalar.addi v178 c1_i32_91
  let v239 : BitVec 32 := Scalar.subi c31_i32_120 v179
  let c128_i32_150 : BitVec 32 := 128#32
  let v299 : BitVec 32 := Scalar.muli v239 c128_i32_150
  v299
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S48x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S48x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S48x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x6x4096x256 : Shape := ⟨4, ![8, 6, 4096, 256]⟩
abbrev S8x6x32 : Shape := ⟨3, ![8, 6, 32]⟩
abbrev S8x6x4096x512 : Shape := ⟨4, ![8, 6, 4096, 512]⟩
abbrev S8x6x4096 : Shape := ⟨3, ![8, 6, 4096]⟩
abbrev S8x6x32x128x256 : Shape := ⟨5, ![8, 6, 32, 128, 256]⟩
abbrev S8x6x32x128x512 : Shape := ⟨5, ![8, 6, 32, 128, 512]⟩
abbrev S8x6x32x128 : Shape := ⟨4, ![8, 6, 32, 128]⟩
abbrev S8x6x32x1x1 : Shape := ⟨5, ![8, 6, 32, 1, 1]⟩
abbrev S8x6x32x128x1 : Shape := ⟨5, ![8, 6, 32, 128, 1]⟩
abbrev S8x6x32x256x512 : Shape := ⟨5, ![8, 6, 32, 256, 512]⟩
abbrev S8x6x31x256x512 : Shape := ⟨5, ![8, 6, 31, 256, 512]⟩
abbrev S_ : Shape := ⟨0, ![]⟩
abbrev S128x128 : Shape := ⟨2, ![128, 128]⟩
abbrev S8x6x32x128x128 : Shape := ⟨5, ![8, 6, 32, 128, 128]⟩
abbrev S48x4096x256 : Shape := ⟨3, ![48, 4096, 256]⟩
abbrev S48x4096x512 : Shape := ⟨3, ![48, 4096, 512]⟩

abbrev nBuf : Space → Nat
  | .hbm => 116
  | .vmem => 8
  | .smem => 0
  | _ => 0

abbrev bufTy : (tb : Table) → Fin (tcTables nBuf tb) → BufTy
  | .hbm, ⟨0, _⟩ => ⟨S8x6x4096x256, .fp8e4m3⟩
  | .hbm, ⟨1, _⟩ => ⟨S8x6x32, .f32⟩
  | .hbm, ⟨2, _⟩ => ⟨S8x6x4096x256, .fp8e4m3⟩
  | .hbm, ⟨3, _⟩ => ⟨S8x6x32, .f32⟩
  | .hbm, ⟨4, _⟩ => ⟨S8x6x4096x512, .fp8e4m3⟩
  | .hbm, ⟨5, _⟩ => ⟨S8x6x32, .f32⟩
  | .hbm, ⟨6, _⟩ => ⟨S8x6x4096x512, .fp8e5m2⟩
  | .hbm, ⟨7, _⟩ => ⟨S8x6x4096, .f32⟩
  | .hbm, ⟨8, _⟩ => ⟨S8x6x4096x256, .bf16⟩
  | .hbm, ⟨9, _⟩ => ⟨S8x6x4096x256, .bf16⟩
  | .hbm, ⟨10, _⟩ => ⟨S8x6x4096x512, .bf16⟩
  | .hbm, ⟨11, _⟩ => ⟨S8x6x4096x512, .bf16⟩
  | .hbm, ⟨12, _⟩ => ⟨S8x6x32x128x256, .bf16⟩
  | .hbm, ⟨13, _⟩ => ⟨S8x6x32x128x256, .bf16⟩
  | .hbm, ⟨14, _⟩ => ⟨S8x6x32x128x512, .bf16⟩
  | .hbm, ⟨15, _⟩ => ⟨S8x6x32x128x512, .bf16⟩
  | .hbm, ⟨16, _⟩ => ⟨S8x6x32x128, .f32⟩
  | .hbm, ⟨17, _⟩ => ⟨S8x6x32, .bf16⟩
  | .hbm, ⟨18, _⟩ => ⟨S8x6x32x1x1, .bf16⟩
  | .hbm, ⟨19, _⟩ => ⟨S8x6x32x128x256, .bf16⟩
  | .hbm, ⟨20, _⟩ => ⟨S8x6x32x128x256, .bf16⟩
  | .hbm, ⟨21, _⟩ => ⟨S8x6x32, .bf16⟩
  | .hbm, ⟨22, _⟩ => ⟨S8x6x32x1x1, .bf16⟩
  | .hbm, ⟨23, _⟩ => ⟨S8x6x32x128x256, .bf16⟩
  | .hbm, ⟨24, _⟩ => ⟨S8x6x32x128x256, .bf16⟩
  | .hbm, ⟨25, _⟩ => ⟨S8x6x32, .bf16⟩
  | .hbm, ⟨26, _⟩ => ⟨S8x6x32x1x1, .bf16⟩
  | .hbm, ⟨27, _⟩ => ⟨S8x6x32x128x512, .bf16⟩
  | .hbm, ⟨28, _⟩ => ⟨S8x6x32x128x512, .bf16⟩
  | .hbm, ⟨29, _⟩ => ⟨S8x6x32x128, .bf16⟩
  | .hbm, ⟨30, _⟩ => ⟨S8x6x32x128x1, .bf16⟩
  | .hbm, ⟨31, _⟩ => ⟨S8x6x32x128x512, .bf16⟩
  | .hbm, ⟨32, _⟩ => ⟨S8x6x32x128x512, .bf16⟩
  | .hbm, ⟨33, _⟩ => ⟨S8x6x32x256x512, .f32⟩
  | .hbm, ⟨34, _⟩ => ⟨S8x6x32, .f32⟩
  | .hbm, ⟨35, _⟩ => ⟨S8x6x32x1x1, .f32⟩
  | .hbm, ⟨36, _⟩ => ⟨S8x6x32x256x512, .f32⟩
  | .hbm, ⟨37, _⟩ => ⟨S8x6x32x256x512, .f32⟩
  | .hbm, ⟨38, _⟩ => ⟨S8x6x32x256x512, .f32⟩
  | .hbm, ⟨39, _⟩ => ⟨S8x6x31x256x512, .f32⟩
  | .hbm, ⟨40, _⟩ => ⟨S_, .f32⟩
  | .hbm, ⟨41, _⟩ => ⟨S_, .f32⟩
  | .hbm, ⟨42, _⟩ => ⟨S8x6x31x256x512, .f32⟩
  | .hbm, ⟨43, _⟩ => ⟨S8x6x31x256x512, .bf16⟩
  | .hbm, ⟨44, _⟩ => ⟨S_, .i32⟩
  | .hbm, ⟨45, _⟩ => ⟨S_, .bf16⟩
  | .hbm, ⟨46, _⟩ => ⟨S8x6x32x256x512, .bf16⟩
  | .hbm, ⟨47, _⟩ => ⟨S8x6x31x256x512, .f32⟩
  | .hbm, ⟨48, _⟩ => ⟨S8x6x31x256x512, .f32⟩
  | .hbm, ⟨49, _⟩ => ⟨S_, .f32⟩
  | .hbm, ⟨50, _⟩ => ⟨S_, .f32⟩
  | .hbm, ⟨51, _⟩ => ⟨S8x6x31x256x512, .f32⟩
  | .hbm, ⟨52, _⟩ => ⟨S8x6x31x256x512, .f32⟩
  | .hbm, ⟨53, _⟩ => ⟨S8x6x31x256x512, .bf16⟩
  | .hbm, ⟨54, _⟩ => ⟨S_, .i32⟩
  | .hbm, ⟨55, _⟩ => ⟨S_, .bf16⟩
  | .hbm, ⟨56, _⟩ => ⟨S8x6x32x256x512, .bf16⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S8x6x32x128x128, .f32⟩
  | .hbm, ⟨69, _⟩ => ⟨S8x6x32x128x1, .f32⟩
  | .hbm, ⟨70, _⟩ => ⟨S8x6x32x1x1, .f32⟩
  | .hbm, ⟨71, _⟩ => ⟨S8x6x32x128x1, .f32⟩
  | .hbm, ⟨72, _⟩ => ⟨S8x6x32x128x1, .f32⟩
  | .hbm, ⟨73, _⟩ => ⟨S8x6x32x128x128, .f32⟩
  | .hbm, ⟨74, _⟩ => ⟨S8x6x32x128x128, .f32⟩
  | .hbm, ⟨75, _⟩ => ⟨S_, .f32⟩
  | .hbm, ⟨76, _⟩ => ⟨S_, .f32⟩
  | .hbm, ⟨77, _⟩ => ⟨S8x6x32x128x128, .i1⟩
  | .hbm, ⟨78, _⟩ => ⟨S8x6x32x128x128, .f32⟩
  | .hbm, ⟨79, _⟩ => ⟨S8x6x32x128x128, .f32⟩
  | .hbm, ⟨80, _⟩ => ⟨S8x6x32x128x128, .bf16⟩
  | .hbm, ⟨81, _⟩ => ⟨S8x6x32x128x128, .f32⟩
  | .hbm, ⟨82, _⟩ => ⟨S8x6x32, .f32⟩
  | .hbm, ⟨83, _⟩ => ⟨S8x6x32x1x1, .f32⟩
  | .hbm, ⟨84, _⟩ => ⟨S8x6x32x128x128, .f32⟩
  | .hbm, ⟨85, _⟩ => ⟨S8x6x32x128x128, .f32⟩
  | .hbm, ⟨86, _⟩ => ⟨S_, .f32⟩
  | .hbm, ⟨87, _⟩ => ⟨S_, .f32⟩
  | .hbm, ⟨88, _⟩ => ⟨S8x6x32x128x128, .i1⟩
  | .hbm, ⟨89, _⟩ => ⟨S8x6x32x128x128, .f32⟩
  | .hbm, ⟨90, _⟩ => ⟨S8x6x32x128x128, .f32⟩
  | .hbm, ⟨91, _⟩ => ⟨S8x6x32x128x128, .bf16⟩
  | .hbm, ⟨92, _⟩ => ⟨S8x6x32x128x256, .f32⟩
  | .hbm, ⟨93, _⟩ => ⟨S8x6x32x128x256, .f32⟩
  | .hbm, ⟨94, _⟩ => ⟨S8x6x32x128x256, .f32⟩
  | .hbm, ⟨95, _⟩ => ⟨S8x6x32x128x256, .f32⟩
  | .hbm, ⟨96, _⟩ => ⟨S8x6x32x128x256, .f32⟩
  | .hbm, ⟨97, _⟩ => ⟨S8x6x32x128x256, .f32⟩
  | .hbm, ⟨98, _⟩ => ⟨S8x6x32x128x512, .f32⟩
  | .hbm, ⟨99, _⟩ => ⟨S8x6x32x128x512, .f32⟩
  | .hbm, ⟨100, _⟩ => ⟨S8x6x32x128x512, .f32⟩
  | .hbm, ⟨101, _⟩ => ⟨S_, .f32⟩
  | .hbm, ⟨102, _⟩ => ⟨S8x6x32x128x256, .f32⟩
  | .hbm, ⟨103, _⟩ => ⟨S8x6x32x128x256, .f32⟩
  | .hbm, ⟨104, _⟩ => ⟨S8x6x32x128x256, .bf16⟩
  | .hbm, ⟨105, _⟩ => ⟨S48x4096x256, .bf16⟩
  | .hbm, ⟨106, _⟩ => ⟨S_, .f32⟩
  | .hbm, ⟨107, _⟩ => ⟨S8x6x32x128x256, .f32⟩
  | .hbm, ⟨108, _⟩ => ⟨S8x6x32x128x256, .f32⟩
  | .hbm, ⟨109, _⟩ => ⟨S8x6x32x128x256, .bf16⟩
  | .hbm, ⟨110, _⟩ => ⟨S48x4096x256, .bf16⟩
  | .hbm, ⟨111, _⟩ => ⟨S_, .f32⟩
  | .hbm, ⟨112, _⟩ => ⟨S8x6x32x128x512, .f32⟩
  | .hbm, ⟨113, _⟩ => ⟨S8x6x32x128x512, .f32⟩
  | .hbm, ⟨114, _⟩ => ⟨S8x6x32x128x512, .bf16⟩
  | .hbm, ⟨115, _⟩ => ⟨S48x4096x512, .bf16⟩
  | .local _ .vmem, ⟨0, _⟩ => ⟨S8x6x4096x256, .fp8e4m3⟩
  | .local _ .vmem, ⟨1, _⟩ => ⟨S8x6x4096x256, .fp8e4m3⟩
  | .local _ .vmem, ⟨2, _⟩ => ⟨S8x6x4096x512, .fp8e4m3⟩
  | .local _ .vmem, ⟨3, _⟩ => ⟨S8x6x4096x512, .fp8e5m2⟩
  | .local _ .vmem, ⟨4, _⟩ => ⟨S8x6x4096x256, .bf16⟩
  | .local _ .vmem, ⟨5, _⟩ => ⟨S8x6x4096x256, .bf16⟩
  | .local _ .vmem, ⟨6, _⟩ => ⟨S8x6x4096x512, .bf16⟩
  | .local _ .vmem, ⟨7, _⟩ => ⟨S8x6x4096x512, .bf16⟩
  | _, _ => ⟨S8x6x4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_call0_cst : Ref sig .tc := ⟨.hbm, 40, rfl⟩
abbrev main_call0_call0_v0 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call2_call0_cst : Ref sig .tc := ⟨.hbm, 49, rfl⟩
abbrev main_call2_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_0 : Ref sig .tc := ⟨.hbm, 54, rfl⟩
abbrev main_call3_v0 : Ref sig .tc := ⟨.hbm, 55, rfl⟩
abbrev main_v37 : Ref sig .tc := ⟨.hbm, 56, rfl⟩
abbrev main_c_1 : Ref sig .tc := ⟨.hbm, 57, rfl⟩
abbrev main_v38 : Ref sig .tc := ⟨.hbm, 58, rfl⟩
abbrev main_call4_v0 : Ref sig .tc := ⟨.hbm, 59, rfl⟩
abbrev main_call4_c : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_c_0 : Ref sig .tc := ⟨.hbm, 65, rfl⟩
abbrev main_call4_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_2 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_3 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_4 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_5 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x6x4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6x4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6x4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6x4096x512 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x6x4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x6x4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x6x4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x6x4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Bits.Model.lean ====
/-
  The kernel's body as plain functions of one grid point's blocks. A grid point is one (batch, head) pair; its sequence of
  4096 rows is cut into 32 chunks of 128 rows. `ATc`, `Ac`, `PTc` are the three masked score blocks of a chunk; `ST n` /
  `STB n` are the forward state after `n` chunks (in f32, and as it is rounded to bf16), `DS n` / `DSB n` / `DST n` the
  backward state after the last `n` chunks (in f32, rounded, rounded and transposed); `DQc`, `DKc`, `DVc` are what the
  body leaves in a chunk's rows of the three results, and `DQ`, `DK`, `DV` the results' blocks.
-/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.VecWindow

@[expose] public section

noncomputable section

namespace Cert.Kernel.Model

open Idealize.ShloMosaic Idealize.ShloMosaic.TcCoe Cert.Kernel.Gen

variable {F : FTy → Type} [FloatOps F]

/-- Chunk number `n` (of 32). -/
def ch (n : ℕ) : Fin 32 := ⟨n % 32, Nat.mod_lt _ (by decide)⟩

theorem ch_val {n : ℕ} (h : n < 32) : (ch n).val = n := Nat.mod_eq_of_lt h

/-- The blocks one grid point reads: the scale tables (whole) with the table's row `g`, the rows of q, k, v, do and the scales of do. -/
structure In (F : FTy → Type) where
  g : Fin 48
  qs : S48x32.Idx → Elt F .f32
  ks : S48x32.Idx → Elt F .f32
  vs : S48x32.Idx → Elt F .f32
  q : S1x4096x256.Idx → Elt F .fp8e4m3
  k : S1x4096x256.Idx → Elt F .fp8e4m3
  v : S1x4096x512.Idx → Elt F .fp8e4m3
  d : S1x4096x512.Idx → Elt F .fp8e5m2
  s : S1x32x128.Idx → Elt F .f32

section Windows

variable {α : Type}

theorem inb256 (c : Fin 32) : ∀ a : Fin 3, (![0, 128 * c.val, 0] : Fin 3 → ℕ) a + S1x128x256.size a ≤ S1x4096x256.size a := by
  intro a; have := c.isLt
  match a with
  | ⟨0, _⟩ => show 0 + 1 ≤ 1; omega
  | ⟨1, _⟩ => show 128 * c.val + 128 ≤ 4096; omega
  | ⟨2, _⟩ => show 0 + 256 ≤ 256; omega

theorem inb512 (c : Fin 32) : ∀ a : Fin 3, (![0, 128 * c.val, 0] : Fin 3 → ℕ) a + S1x128x512.size a ≤ S1x4096x512.size a := by
  intro a; have := c.isLt
  match a with
  | ⟨0, _⟩ => show 0 + 1 ≤ 1; omega
  | ⟨1, _⟩ => show 128 * c.val + 128 ≤ 4096; omega
  | ⟨2, _⟩ => show 0 + 512 ≤ 512; omega

theorem inbTok (c : Fin 32) : ∀ a : Fin 3, (![0, c.val, 0] : Fin 3 → ℕ) a + S1x1x128.size a ≤ S1x32x128.size a := by
  intro a; have := c.isLt
  match a with
  | ⟨0, _⟩ => show 0 + 1 ≤ 1; omega
  | ⟨1, _⟩ => show c.val + 1 ≤ 32; omega
  | ⟨2, _⟩ => show 0 + 128 ≤ 128; omega

theorem inbSlab (c : Fin 32) : ∀ a : Fin 3, (![c.val, 0, 0] : Fin 3 → ℕ) a + S1x128x128.size a ≤ S32x128x128.size a := by
  intro a; have := c.isLt
  match a with
  | ⟨0, _⟩ => show c.val + 1 ≤ 32; omega
  | ⟨1, _⟩ => show 0 + 128 ≤ 128; omega
  | ⟨2, _⟩ => show 0 + 128 ≤ 128; omega

theorem inbCell (g : Fin 48) (c : Fin 32) : ∀ a : Fin 2, (![g.val, c.val] : Fin 2 → ℕ) a + S1x1.size a ≤ S48x32.size a := by
  intro a; have := c.isLt; have := g.isLt
  match a with
  | ⟨0, _⟩ => show g.val + 1 ≤ 48; omega
  | ⟨1, _⟩ => show c.val + 1 ≤ 32; omega

/-- Chunk `c`'s rows of an array of 256 columns. -/
def rows256 (x : S1x4096x256.Idx → α) (c : Fin 32) : S1x128x256.Idx → α :=
  VecWindow.window (s := S1x4096x256) x ![0, 128 * c.val, 0] S1x128x256.size (inb256 c)

/-- Chunk `c`'s rows of an array of 512 columns. -/
def rows512 (x : S1x4096x512.Idx → α) (c : Fin 32) : S1x128x512.Idx → α :=
  VecWindow.window (s := S1x4096x512) x ![0, 128 * c.val, 0] S1x128x512.size (inb512 c)

/-- Chunk `c`'s scales of do. -/
def tok (x : S1x32x128.Idx → α) (c : Fin 32) : S1x1x128.Idx → α :=
  VecWindow.window (s := S1x32x128) x ![0, c.val, 0] S1x1x128.size (inbTok c)

/-- Chunk `c`'s block of a buffer of 32 score blocks. -/
def slab (x : S32x128x128.Idx → α) (c : Fin 32) : S1x128x128.Idx → α :=
  VecWindow.window (s := S32x128x128) x ![c.val, 0, 0] S1x128x128.size (inbSlab c)

/-- Chunk `c`'s scale in row `g` of a scale table. -/
def cell (x : S48x32.Idx → α) (g : Fin 48) (c : Fin 32) : α :=
  VecWindow.window (s := S48x32) x ![g.val, c.val] S1x1.size (inbCell g c) (Shape.Idx.first (s := S1x1) (by decide))

end Windows

section Chunks

variable (I : In F)

/-- The masked block of `do · vᵀ`, transposed: entry (key, query). -/
def XVc (c : Fin 32) : FVec F S128x128 .f32 := k0_pay17 k0_pay1 (rows512 I.v c) (rows512 I.d c)
/-- The block that dk multiplies by q. -/
def ATc (c : Fin 32) : S1x128x128.Idx → Elt F .bf16 := k0_pay20 (cell I.qs I.g c) (k0_pay16 (tok I.s c)) (XVc I c)
/-- The block that dq multiplies by k. -/
def Ac (c : Fin 32) : S1x128x128.Idx → Elt F .bf16 := k0_pay21 (cell I.ks I.g c) (cell I.vs I.g c) (XVc I c)
/-- The block that dv multiplies by do. -/
def PTc (c : Fin 32) : S1x128x128.Idx → Elt F .bf16 :=
  k0_pay22 k0_pay1 (cell I.qs I.g c) (k0_pay16 (tok I.s c)) (k0_pay18 (rows256 I.k c)) (k0_pay19 (rows256 I.q c))

/-- The forward state after `n` chunks. -/
def ST : ℕ → (S512x256.Idx → Elt F .f32)
  | 0 => k0_pay2
  | n + 1 => k0_pay46 (cell I.ks I.g (ch n)) (cell I.vs I.g (ch n)) (k0_pay39 (rows256 I.k (ch n))) (k0_pay40 (rows512 I.v (ch n))) (ST n)
/-- The forward state after `n` chunks, rounded. -/
def STB : ℕ → (S512x256.Idx → Elt F .bf16)
  | 0 => k0_pay3
  | n + 1 => k0_pay47 (cell I.ks I.g (ch n)) (cell I.vs I.g (ch n)) (k0_pay39 (rows256 I.k (ch n))) (k0_pay40 (rows512 I.v (ch n))) (ST I n)
/-- The backward state after the last `n` chunks. -/
def DS : ℕ → (S256x512.Idx → Elt F .f32)
  | 0 => k0_pay4
  | n + 1 => k0_pay54 (cell I.qs I.g (ch (31 - n))) (k0_pay48 (rows256 I.q (ch (31 - n)))) (k0_pay49 (rows512 I.d (ch (31 - n)))) (tok I.s (ch (31 - n))) (DS n)
/-- The backward state after the last `n` chunks, rounded. -/
def DSB : ℕ → (S256x512.Idx → Elt F .bf16)
  | 0 => k0_pay5
  | n + 1 => k0_pay56 (cell I.qs I.g (ch (31 - n))) (k0_pay48 (rows256 I.q (ch (31 - n)))) (k0_pay49 (rows512 I.d (ch (31 - n)))) (tok I.s (ch (31 - n))) (DS I n)
/-- The backward state after the last `n` chunks, rounded and transposed. -/
def DST : ℕ → (S512x256.Idx → Elt F .bf16)
  | 0 => k0_pay6
  | n + 1 => k0_pay57 (cell I.qs I.g (ch (31 - n))) (k0_pay48 (rows256 I.q (ch (31 - n)))) (k0_pay49 (rows512 I.d (ch (31 - n)))) (tok I.s (ch (31 - n))) (DS I n)

/-- Chunk `c`'s rows of dq. -/
def DQc (c : Fin 32) : S1x128x256.Idx → Elt F .bf16 :=
  k0_pay44 (k0_pay41 (rows256 I.k c) (rows512 I.d c) (STB I c.val) (Ac I c)) (k0_pay42 (tok I.s c)) k0_pay43
/-- Chunk `c`'s rows of dk. -/
def DKc (c : Fin 32) : S1x128x256.Idx → Elt F .bf16 :=
  k0_pay50 (cell I.vs I.g c) (k0_pay48 (rows256 I.q c)) (rows512 I.v c) (DST I (31 - c.val)) (ATc I c)
/-- Chunk `c`'s rows of dv. -/
def DVc (c : Fin 32) : S1x128x512.Idx → Elt F .bf16 :=
  k0_pay52 (cell I.ks I.g c) (k0_pay49 (rows512 I.d c)) (k0_pay51 (rows256 I.k c) (DSB I (31 - c.val))) (PTc I c)

end Chunks

/-- The chunk of a row. -/
def chunkOf (r : Fin 4096) : Fin 32 := ⟨r.val / 128, by have := r.isLt; omega⟩
/-- A row's place in its chunk. -/
def inChunk (r : Fin 4096) : Fin 128 := ⟨r.val % 128, Nat.mod_lt _ (by decide)⟩

/-- The place of an index of an array of 256 columns in its chunk's rows. -/
def loc256 (j : S1x4096x256.Idx) : S1x128x256.Idx := Fin.cons (j 0) (Fin.cons (inChunk (j 1)) (Fin.cons (j 2) finZeroElim))
/-- The place of an index of an array of 512 columns in its chunk's rows. -/
def loc512 (j : S1x4096x512.Idx) : S1x128x512.Idx := Fin.cons (j 0) (Fin.cons (inChunk (j 1)) (Fin.cons (j 2) finZeroElim))

/-- The block of dq at the grid point. -/
def DQ (I : In F) : S1x4096x256.Idx → Elt F .bf16 := fun j => DQc I (chunkOf (j 1)) (loc256 j)
/-- The block of dk at the grid point. -/
def DK (I : In F) : S1x4096x256.Idx → Elt F .bf16 := fun j => DKc I (chunkOf (j 1)) (loc256 j)
/-- The block of dv at the grid point. -/
def DV (I : In F) : S1x4096x512.Idx → Elt F .bf16 := fun j => DVc I (chunkOf (j 1)) (loc512 j)

/-- An array of 256 columns is known from its chunks. -/
theorem eq_of_rows256 {α : Type} (x : S1x4096x256.Idx → α) (G : Fin 32 → S1x128x256.Idx → α) (h : ∀ c, rows256 x c = G c) :
    x = fun j => G (chunkOf (j 1)) (loc256 j) := by
  funext j
  rw [← h]
  refine congrArg x (funext fun a => Fin.ext ?_)
  match a with
  | ⟨0, _⟩ => show (j 0).val = 0 + 1 * (j 0).val; omega
  | ⟨1, _⟩ => show (j 1).val = 128 * ((j 1).val / 128) + 1 * ((j 1).val % 128); omega
  | ⟨2, _⟩ => show (j 2).val = 0 + 1 * (j 2).val; omega

/-- An array of 512 columns is known from its chunks. -/
theorem eq_of_rows512 {α : Type} (x : S1x4096x512.Idx → α) (G : Fin 32 → S1x128x512.Idx → α) (h : ∀ c, rows512 x c = G c) :
    x = fun j => G (chunkOf (j 1)) (loc512 j) := by
  funext j
  rw [← h]
  refine congrArg x (funext fun a => Fin.ext ?_)
  match a with
  | ⟨0, _⟩ => show (j 0).val = 0 + 1 * (j 0).val; omega
  | ⟨1, _⟩ => show (j 1).val = 128 * ((j 1).val / 128) + 1 * ((j 1).val % 128); omega
  | ⟨2, _⟩ => show (j 2).val = 0 + 1 * (j 2).val; omega

section Reads

variable {sig : RefSig} {κ : Kind} {sp : Space} {e : EltTy} {Val : EltTy → Type}

/-- A load of chunk `c` through a view. -/
theorem read_rows256 (v : View sig κ sp S1x4096x256 e) (f : v.ty.Contents Val) {off : Fin 3 → ℕ}
    (inb : ∀ a, off a + S1x128x256.size a ≤ S1x4096x256.size a) (c : Fin 32) (h : off = ![0, 128 * c.val, 0]) :
    v.readAt Val (Rect.unit (s := S1x4096x256) off S1x128x256.size inb).toLoadRect f = rows256 (v.read Val f) c :=
  View.readAt_unit v f inb h (inb256 c)

/-- After a store of chunk `c`, chunk `c` is what was stored. -/
theorem rows256_hit (v : View sig κ sp S1x4096x256 e) (f : v.ty.Contents Val) {off : Fin 3 → ℕ}
    (inb : ∀ a, off a + S1x128x256.size a ≤ S1x4096x256.size a) (w : (Rect.unit (s := S1x4096x256) off S1x128x256.size inb).shape.Idx → Val e)
    (L : List (View.Piece Val S1x4096x256 e)) (c : Fin 32) (h : off = ![0, 128 * c.val, 0]) :
    rows256 (v.read Val (v.writes Val f (⟨Rect.unit off S1x128x256.size inb, w⟩ :: L))) c = w := by
  rw [View.read_writes_cons_put v f inb w L h]
  exact VecWindow.window_put_same _ _ _ (inb256 c) _

/-- After a store of chunk `c`, another chunk is what it was. -/
theorem rows256_miss (v : View sig κ sp S1x4096x256 e) (f : v.ty.Contents Val) {off : Fin 3 → ℕ}
    (inb : ∀ a, off a + S1x128x256.size a ≤ S1x4096x256.size a) (w : (Rect.unit (s := S1x4096x256) off S1x128x256.size inb).shape.Idx → Val e)
    (L : List (View.Piece Val S1x4096x256 e)) (c c' : Fin 32) (h : off = ![0, 128 * c.val, 0]) (hne : c' ≠ c) :
    rows256 (v.read Val (v.writes Val f (⟨Rect.unit off S1x128x256.size inb, w⟩ :: L))) c' = rows256 (v.read Val (v.writes Val f L)) c' := by
  rw [View.read_writes_cons_put v f inb w L h]
  refine VecWindow.window_put_of_disjoint _ _ _ _ _ (inb256 c') _ ((1 : Fin 3) : Fin S1x4096x256.rank) ?_
  have hv : c'.val ≠ c.val := fun e => hne (Fin.ext e)
  show 128 * c'.val + 128 ≤ 128 * c.val ∨ 128 * c.val + 128 ≤ 128 * c'.val
  omega

/-- After stores of two chunks, the chunks stored before or now are as `G` says. -/
theorem rows256_step2 (v : View sig κ sp S1x4096x256 e) (f : v.ty.Contents Val) {o0 o1 : Fin 3 → ℕ}
    (i0 : ∀ a, o0 a + S1x128x256.size a ≤ S1x4096x256.size a) (i1 : ∀ a, o1 a + S1x128x256.size a ≤ S1x4096x256.size a)
    (w0 : (Rect.unit (s := S1x4096x256) o0 S1x128x256.size i0).shape.Idx → Val e) (w1 : (Rect.unit (s := S1x4096x256) o1 S1x128x256.size i1).shape.Idx → Val e)
    (c0 c1 : Fin 32) (h0 : o0 = ![0, 128 * c0.val, 0]) (h1 : o1 = ![0, 128 * c1.val, 0])
    (G : Fin 32 → S1x128x256.Idx → Val e) (e0 : w0 = G c0) (e1 : w1 = G c1) (P P' : Fin 32 → Prop)
    (hold : ∀ c, P c → rows256 (v.read Val f) c = G c) (hP : ∀ c, P' c → c = c1 ∨ c = c0 ∨ P c) :
    ∀ c, P' c → rows256 (v.read Val (v.writes Val f [⟨Rect.unit o1 S1x128x256.size i1, w1⟩, ⟨Rect.unit o0 S1x128x256.size i0, w0⟩])) c = G c := by
  intro c hc
  by_cases k1 : c = c1
  · rw [k1, rows256_hit v f i1 w1 _ c1 h1, e1]
  rw [rows256_miss v f i1 w1 _ c1 c h1 k1]
  by_cases k0 : c = c0
  · rw [k0, rows256_hit v f i0 w0 _ c0 h0, e0]
  rw [rows256_miss v f i0 w0 _ c0 c h0 k0, View.writes_nil]
  rcases hP c hc with h | h | h
  · exact absurd h k1
  · exact absurd h k0
  · exact hold c h

/-- A load of chunk `c` through a view. -/
theorem read_rows512 (v : View sig κ sp S1x4096x512 e) (f : v.ty.Contents Val) {off : Fin 3 → ℕ}
    (inb : ∀ a, off a + S1x128x512.size a ≤ S1x4096x512.size a) (c : Fin 32) (h : off = ![0, 128 * c.val, 0]) :
    v.readAt Val (Rect.unit (s := S1x4096x512) off S1x128x512.size inb).toLoadRect f = rows512 (v.read Val f) c :=
  View.readAt_unit v f inb h (inb512 c)

/-- After a store of chunk `c`, chunk `c` is what was stored. -/
theorem rows512_hit (v : View sig κ sp S1x4096x512 e) (f : v.ty.Contents Val) {off : Fin 3 → ℕ}
    (inb : ∀ a, off a + S1x128x512.size a ≤ S1x4096x512.size a) (w : (Rect.unit (s := S1x4096x512) off S1x128x512.size inb).shape.Idx → Val e)
    (L : List (View.Piece Val S1x4096x512 e)) (c : Fin 32) (h : off = ![0, 128 * c.val, 0]) :
    rows512 (v.read Val (v.writes Val f (⟨Rect.unit off S1x128x512.size inb, w⟩ :: L))) c = w := by
  rw [View.read_writes_cons_put v f inb w L h]
  exact VecWindow.window_put_same _ _ _ (inb512 c) _

/-- After a store of chunk `c`, another chunk is what it was. -/
theorem rows512_miss (v : View sig κ sp S1x4096x512 e) (f : v.ty.Contents Val) {off : Fin 3 → ℕ}
    (inb : ∀ a, off a + S1x128x512.size a ≤ S1x4096x512.size a) (w : (Rect.unit (s := S1x4096x512) off S1x128x512.size inb).shape.Idx → Val e)
    (L : List (View.Piece Val S1x4096x512 e)) (c c' : Fin 32) (h : off = ![0, 128 * c.val, 0]) (hne : c' ≠ c) :
    rows512 (v.read Val (v.writes Val f (⟨Rect.unit off S1x128x512.size inb, w⟩ :: L))) c' = rows512 (v.read Val (v.writes Val f L)) c' := by
  rw [View.read_writes_cons_put v f inb w L h]
  refine VecWindow.window_put_of_disjoint _ _ _ _ _ (inb512 c') _ ((1 : Fin 3) : Fin S1x4096x512.rank) ?_
  have hv : c'.val ≠ c.val := fun e => hne (Fin.ext e)
  show 128 * c'.val + 128 ≤ 128 * c.val ∨ 128 * c.val + 128 ≤ 128 * c'.val
  omega

/-- After stores of two chunks, the chunks stored before or now are as `G` says. -/
theorem rows512_step2 (v : View sig κ sp S1x4096x512 e) (f : v.ty.Contents Val) {o0 o1 : Fin 3 → ℕ}
    (i0 : ∀ a, o0 a + S1x128x512.size a ≤ S1x4096x512.size a) (i1 : ∀ a, o1 a + S1x128x512.size a ≤ S1x4096x512.size a)
    (w0 : (Rect.unit (s := S1x4096x512) o0 S1x128x512.size i0).shape.Idx → Val e) (w1 : (Rect.unit (s := S1x4096x512) o1 S1x128x512.size i1).shape.Idx → Val e)
    (c0 c1 : Fin 32) (h0 : o0 = ![0, 128 * c0.val, 0]) (h1 : o1 = ![0, 128 * c1.val, 0])
    (G : Fin 32 → S1x128x512.Idx → Val e) (e0 : w0 = G c0) (e1 : w1 = G c1) (P P' : Fin 32 → Prop)
    (hold : ∀ c, P c → rows512 (v.read Val f) c = G c) (hP : ∀ c, P' c → c = c1 ∨ c = c0 ∨ P c) :
    ∀ c, P' c → rows512 (v.read Val (v.writes Val f [⟨Rect.unit o1 S1x128x512.size i1, w1⟩, ⟨Rect.unit o0 S1x128x512.size i0, w0⟩])) c = G c := by
  intro c hc
  by_cases k1 : c = c1
  · rw [k1, rows512_hit v f i1 w1 _ c1 h1, e1]
  rw [rows512_miss v f i1 w1 _ c1 c h1 k1]
  by_cases k0 : c = c0
  · rw [k0, rows512_hit v f i0 w0 _ c0 h0, e0]
  rw [rows512_miss v f i0 w0 _ c0 c h0 k0, View.writes_nil]
  rcases hP c hc with h | h | h
  · exact absurd h k1
  · exact absurd h k0
  · exact hold c h

/-- A load of chunk `c` through a view. -/
theorem read_slab (v : View sig κ sp S32x128x128 e) (f : v.ty.Contents Val) {off : Fin 3 → ℕ}
    (inb : ∀ a, off a + S1x128x128.size a ≤ S32x128x128.size a) (c : Fin 32) (h : off = ![c.val, 0, 0]) :
    v.readAt Val (Rect.unit (s := S32x128x128) off S1x128x128.size inb).toLoadRect f = slab (v.read Val f) c :=
  View.readAt_unit v f inb h (inbSlab c)

/-- After a store of chunk `c`, chunk `c` is what was stored. -/
theorem slab_hit (v : View sig κ sp S32x128x128 e) (f : v.ty.Contents Val) {off : Fin 3 → ℕ}
    (inb : ∀ a, off a + S1x128x128.size a ≤ S32x128x128.size a) (w : (Rect.unit (s := S32x128x128) off S1x128x128.size inb).shape.Idx → Val e)
    (L : List (View.Piece Val S32x128x128 e)) (c : Fin 32) (h : off = ![c.val, 0, 0]) :
    slab (v.read Val (v.writes Val f (⟨Rect.unit off S1x128x128.size inb, w⟩ :: L))) c = w := by
  rw [View.read_writes_cons_put v f inb w L h]
  exact VecWindow.window_put_same _ _ _ (inbSlab c) _

/-- After a store of chunk `c`, another chunk is what it was. -/
theorem slab_miss (v : View sig κ sp S32x128x128 e) (f : v.ty.Contents Val) {off : Fin 3 → ℕ}
    (inb : ∀ a, off a + S1x128x128.size a ≤ S32x128x128.size a) (w : (Rect.unit (s := S32x128x128) off S1x128x128.size inb).shape.Idx → Val e)
    (L : List (View.Piece Val S32x128x128 e)) (c c' : Fin 32) (h : off = ![c.val, 0, 0]) (hne : c' ≠ c) :
    slab (v.read Val (v.writes Val f (⟨Rect.unit off S1x128x128.size inb, w⟩ :: L))) c' = slab (v.read Val (v.writes Val f L)) c' := by
  rw [View.read_writes_cons_put v f inb w L h]
  refine VecWindow.window_put_of_disjoint _ _ _ _ _ (inbSlab c') _ ((0 : Fin 3) : Fin S32x128x128.rank) ?_
  have hv : c'.val ≠ c.val := fun e => hne (Fin.ext e)
  show c'.val + 1 ≤ c.val ∨ c.val + 1 ≤ c'.val
  omega

/-- After stores of two chunks, the chunks stored before or now are as `G` says. -/
theorem slab_step2 (v : View sig κ sp S32x128x128 e) (f : v.ty.Contents Val) {o0 o1 : Fin 3 → ℕ}
    (i0 : ∀ a, o0 a + S1x128x128.size a ≤ S32x128x128.size a) (i1 : ∀ a, o1 a + S1x128x128.size a ≤ S32x128x128.size a)
    (w0 : (Rect.unit (s := S32x128x128) o0 S1x128x128.size i0).shape.Idx → Val e) (w1 : (Rect.unit (s := S32x128x128) o1 S1x128x128.size i1).shape.Idx → Val e)
    (c0 c1 : Fin 32) (h0 : o0 = ![c0.val, 0, 0]) (h1 : o1 = ![c1.val, 0, 0])
    (G : Fin 32 → S1x128x128.Idx → Val e) (e0 : w0 = G c0) (e1 : w1 = G c1) (P P' : Fin 32 → Prop)
    (hold : ∀ c, P c → slab (v.read Val f) c = G c) (hP : ∀ c, P' c → c = c1 ∨ c = c0 ∨ P c) :
    ∀ c, P' c → slab (v.read Val (v.writes Val f [⟨Rect.unit o1 S1x128x128.size i1, w1⟩, ⟨Rect.unit o0 S1x128x128.size i0, w0⟩])) c = G c := by
  intro c hc
  by_cases k1 : c = c1
  · rw [k1, slab_hit v f i1 w1 _ c1 h1, e1]
  rw [slab_miss v f i1 w1 _ c1 c h1 k1]
  by_cases k0 : c = c0
  · rw [k0, slab_hit v f i0 w0 _ c0 h0, e0]
  rw [slab_miss v f i0 w0 _ c0 c h0 k0, View.writes_nil]
  rcases hP c hc with h | h | h
  · exact absurd h k1
  · exact absurd h k0
  · exact hold c h

/-- A load of the whole of a state through a view. -/
theorem read_all512x256 (v : View sig κ sp S512x256 e) (f : v.ty.Contents Val) (inb : ∀ a, (![0, 0] : Fin 2 → ℕ) a + (![512, 256] : Fin 2 → ℕ) a ≤ S512x256.size a) :
    v.readAt Val (Rect.unit (s := S512x256) ![0, 0] ![512, 256] inb).toLoadRect f = v.read Val f :=
  View.readAt_full v f inb

/-- After a store of the whole of a state, a load of it gives what was stored. -/
theorem cov_all512x256 [∀ e, Nonempty (Val e)] (v : View sig κ sp S512x256 e) (inb : ∀ a, (![0, 0] : Fin 2 → ℕ) a + (![512, 256] : Fin 2 → ℕ) a ≤ S512x256.size a)
    (inb' : ∀ a, (![0, 0] : Fin 2 → ℕ) a + (![512, 256] : Fin 2 → ℕ) a ≤ S512x256.size a)
    (w : (Rect.unit (s := S512x256) ![0, 0] ![512, 256] inb').shape.Idx → Val e) (L : List (View.Piece Val S512x256 e)) :
    v.readCov (⟨Rect.unit (s := S512x256) ![0, 0] ![512, 256] inb', w⟩ :: L) (Rect.unit (s := S512x256) ![0, 0] ![512, 256] inb).toLoadRect = w :=
  View.readCov_full v _ _ w L

/-- A load of the whole of a state through a view. -/
theorem read_all256x512 (v : View sig κ sp S256x512 e) (f : v.ty.Contents Val) (inb : ∀ a, (![0, 0] : Fin 2 → ℕ) a + (![256, 512] : Fin 2 → ℕ) a ≤ S256x512.size a) :
    v.readAt Val (Rect.unit (s := S256x512) ![0, 0] ![256, 512] inb).toLoadRect f = v.read Val f :=
  View.readAt_full v f inb

/-- After a store of the whole of a state, a load of it gives what was stored. -/
theorem cov_all256x512 [∀ e, Nonempty (Val e)] (v : View sig κ sp S256x512 e) (inb : ∀ a, (![0, 0] : Fin 2 → ℕ) a + (![256, 512] : Fin 2 → ℕ) a ≤ S256x512.size a)
    (inb' : ∀ a, (![0, 0] : Fin 2 → ℕ) a + (![256, 512] : Fin 2 → ℕ) a ≤ S256x512.size a)
    (w : (Rect.unit (s := S256x512) ![0, 0] ![256, 512] inb').shape.Idx → Val e) (L : List (View.Piece Val S256x512 e)) :
    v.readCov (⟨Rect.unit (s := S256x512) ![0, 0] ![256, 512] inb', w⟩ :: L) (Rect.unit (s := S256x512) ![0, 0] ![256, 512] inb).toLoadRect = w :=
  View.readCov_full v _ _ w L

/-- A load of chunk `c`'s scales of do through a view. -/
theorem read_tok (v : View sig κ sp S1x32x128 e) (f : v.ty.Contents Val) {off : Fin 3 → ℕ}
    (inb : ∀ a, off a + S1x1x128.size a ≤ S1x32x128.size a) (c : Fin 32) (h : off = ![0, c.val, 0]) :
    v.readAt Val (Rect.unit (s := S1x32x128) off S1x1x128.size inb).toLoadRect f = tok (v.read Val f) c :=
  View.readAt_unit v f inb h (inbTok c)

/-- A load of one scale through a view. -/
theorem read_cell (v : View sig κ sp S48x32 e) (f : v.ty.Contents Val) {off : Fin 2 → ℕ}
    (inb : ∀ a, off a + S1x1.size a ≤ S48x32.size a) (g : Fin 48) (c : Fin 32) (h : off = ![g.val, c.val]) (hp) :
    v.readAt Val (Rect.unit (s := S48x32) off S1x1.size inb).toLoadRect f (Shape.Idx.first hp) = cell (v.read Val f) g c :=
  congrFun (View.readAt_unit v f inb h (inbCell g c)) _

/-- After stores of four chunks' blocks, the blocks stored before or now are as `G` says. -/
theorem slab_step4 (v : View sig κ sp S32x128x128 e) (f : v.ty.Contents Val) {o0 o1 o2 o3 : Fin 3 → ℕ}
    (i0 : ∀ a, o0 a + S1x128x128.size a ≤ S32x128x128.size a) (i1 : ∀ a, o1 a + S1x128x128.size a ≤ S32x128x128.size a)
    (i2 : ∀ a, o2 a + S1x128x128.size a ≤ S32x128x128.size a) (i3 : ∀ a, o3 a + S1x128x128.size a ≤ S32x128x128.size a)
    (w0 : (Rect.unit (s := S32x128x128) o0 S1x128x128.size i0).shape.Idx → Val e) (w1 : (Rect.unit (s := S32x128x128) o1 S1x128x128.size i1).shape.Idx → Val e)
    (w2 : (Rect.unit (s := S32x128x128) o2 S1x128x128.size i2).shape.Idx → Val e) (w3 : (Rect.unit (s := S32x128x128) o3 S1x128x128.size i3).shape.Idx → Val e)
    (c0 c1 c2 c3 : Fin 32) (h0 : o0 = ![c0.val, 0, 0]) (h1 : o1 = ![c1.val, 0, 0]) (h2 : o2 = ![c2.val, 0, 0]) (h3 : o3 = ![c3.val, 0, 0])
    (G : Fin 32 → S1x128x128.Idx → Val e) (e0 : w0 = G c0) (e1 : w1 = G c1) (e2 : w2 = G c2) (e3 : w3 = G c3) (P P' : Fin 32 → Prop)
    (hold : ∀ c, P c → slab (v.read Val f) c = G c) (hP : ∀ c, P' c → c = c3 ∨ c = c2 ∨ c = c1 ∨ c = c0 ∨ P c) :
    ∀ c, P' c → slab (v.read Val (v.writes Val f [⟨Rect.unit o3 S1x128x128.size i3, w3⟩, ⟨Rect.unit o2 S1x128x128.size i2, w2⟩,
      ⟨Rect.unit o1 S1x128x128.size i1, w1⟩, ⟨Rect.unit o0 S1x128x128.size i0, w0⟩])) c = G c := by
  intro c hc
  by_cases k3 : c = c3
  · rw [k3, slab_hit v f i3 w3 _ c3 h3, e3]
  rw [slab_miss v f i3 w3 _ c3 c h3 k3]
  by_cases k2 : c = c2
  · rw [k2, slab_hit v f i2 w2 _ c2 h2, e2]
  rw [slab_miss v f i2 w2 _ c2 c h2 k2]
  exact slab_step2 v f i0 i1 w0 w1 c0 c1 h0 h1 G e0 e1 P (fun c => P' c ∧ c ≠ c3 ∧ c ≠ c2) hold
    (fun c hc => by rcases hP c hc.1 with h | h | h
                    · exact absurd h hc.2.1
                    · exact absurd h hc.2.2
                    · exact h) c ⟨hc, k3, k2⟩

end Reads

end Cert.Kernel.Model

end
-- ==== Proof.Bits.Loop1.lean ====
/-
  The first loop of the kernel's body: trip `k` writes the score blocks of chunks 4 k .. 4 k + 3.
-/
module

public import proofs.«01_k».proof.Proof.Bits.Model

@[expose] public section

set_option maxRecDepth 8192

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen Model

variable {F : FTy → Type} [FloatOps F]

local notation "𝕄G" => MT nD τ sig Unit (Elt F) ℕ (UR sig nD τ) ℕ

/-- Before trip `k` of the first loop: the blocks read are as they were, and the score blocks of the first 4 k chunks are written. -/
def Inv1 (c : Dev nD) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f : BufTy.Contents (Elt F) arg17.view.ty, ⌜∀ j : Fin 32, j.val < 4 * k → slab (arg17.view.read (Elt F) f) j = Ac I j⌝ ∗ (arg17.view.loc (c : Thread nD τ) ↦[arg17.view.set]{fullShare} f)) ∗ (∃ f : BufTy.Contents (Elt F) arg18.view.ty, ⌜∀ j : Fin 32, j.val < 4 * k → slab (arg18.view.read (Elt F) f) j = ATc I j⌝ ∗ (arg18.view.loc (c : Thread nD τ) ↦[arg18.view.set]{fullShare} f)) ∗ (∃ f : BufTy.Contents (Elt F) arg19.view.ty, ⌜∀ j : Fin 32, j.val < 4 * k → slab (arg19.view.read (Elt F) f) j = PTc I j⌝ ∗ (arg19.view.loc (c : Thread nD τ) ↦[arg19.view.set]{fullShare} f)))

set_option maxHeartbeats 4000000 in
/-- One trip of the first loop takes `Inv1 k` to `Inv1 (k + 1)`. -/
theorem trip1 (𝒱 : Variants) (c : Dev nD) (bd : Option 𝒱.V) (E : Set ℕ) (i : grid0.Coords) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (hg : I.g.val = (i 0).val) (h_arg1 : arg1.view.read (Elt F) X_arg1 = I.qs) (h_arg2 : arg2.view.read (Elt F) X_arg2 = I.ks) (h_arg3 : arg3.view.read (Elt F) X_arg3 = I.vs) (h_arg4 : arg4.view.read (Elt F) X_arg4 = I.q) (h_arg5 : arg5.view.read (Elt F) X_arg5 = I.k) (h_arg6 : arg6.view.read (Elt F) X_arg6 = I.v) (h_arg7 : arg7.view.read (Elt F) X_arg7 = I.d) (h_arg8 : arg8.view.read (Elt F) X_arg8 = I.s)
    (k : Fin k0_t1_loop.trips) (acc : Unit) :
    Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 k.val acc ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k acc) (Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 (k.val + 1)) := by
  have hk : k.val < 8 := Nat.lt_of_lt_of_le k.isLt k0_t1_abs.2.1
  have hc0 : (ch (4 * k.val + 0)).val = 4 * k.val + 0 := ch_val (by omega)
  have cl0 : k0_off1 i k 0#32 = ![I.g.val, (ch (4 * k.val + 0)).val] := by
    rw [hc0, hg]; exact k0_off1_eq i k 0
  have tk0 : k0_off2 k 0#32 = ![0, (ch (4 * k.val + 0)).val, 0] := by
    rw [hc0]; exact k0_off2_eq k 0
  have vo0 : k0_off3 k 0#32 = ![0, 128 * (ch (4 * k.val + 0)).val, 0] := by
    rw [hc0, show 128 * (4 * k.val + 0) = 512 * k.val + 128 * 0 from by omega]; exact k0_off3_eq k 0
  have ko0 : k0_off4 k 0#32 = ![0, 128 * (ch (4 * k.val + 0)).val, 0] := by
    rw [hc0, show 128 * (4 * k.val + 0) = 512 * k.val + 128 * 0 from by omega]; exact k0_off4_eq k 0
  have sl0 : k0_off5 k 0#32 = ![(ch (4 * k.val + 0)).val, 0, 0] := by
    rw [hc0]; exact k0_off5_eq k 0
  have hc1 : (ch (4 * k.val + 1)).val = 4 * k.val + 1 := ch_val (by omega)
  have cl1 : k0_off1 i k 1#32 = ![I.g.val, (ch (4 * k.val + 1)).val] := by
    rw [hc1, hg]; exact k0_off1_eq i k 1
  have tk1 : k0_off2 k 1#32 = ![0, (ch (4 * k.val + 1)).val, 0] := by
    rw [hc1]; exact k0_off2_eq k 1
  have vo1 : k0_off3 k 1#32 = ![0, 128 * (ch (4 * k.val + 1)).val, 0] := by
    rw [hc1, show 128 * (4 * k.val + 1) = 512 * k.val + 128 * 1 from by omega]; exact k0_off3_eq k 1
  have ko1 : k0_off4 k 1#32 = ![0, 128 * (ch (4 * k.val + 1)).val, 0] := by
    rw [hc1, show 128 * (4 * k.val + 1) = 512 * k.val + 128 * 1 from by omega]; exact k0_off4_eq k 1
  have sl1 : k0_off5 k 1#32 = ![(ch (4 * k.val + 1)).val, 0, 0] := by
    rw [hc1]; exact k0_off5_eq k 1
  have hc2 : (ch (4 * k.val + 2)).val = 4 * k.val + 2 := ch_val (by omega)
  have cl2 : k0_off1 i k 2#32 = ![I.g.val, (ch (4 * k.val + 2)).val] := by
    rw [hc2, hg]; exact k0_off1_eq i k 2
  have tk2 : k0_off2 k 2#32 = ![0, (ch (4 * k.val + 2)).val, 0] := by
    rw [hc2]; exact k0_off2_eq k 2
  have vo2 : k0_off3 k 2#32 = ![0, 128 * (ch (4 * k.val + 2)).val, 0] := by
    rw [hc2, show 128 * (4 * k.val + 2) = 512 * k.val + 128 * 2 from by omega]; exact k0_off3_eq k 2
  have ko2 : k0_off4 k 2#32 = ![0, 128 * (ch (4 * k.val + 2)).val, 0] := by
    rw [hc2, show 128 * (4 * k.val + 2) = 512 * k.val + 128 * 2 from by omega]; exact k0_off4_eq k 2
  have sl2 : k0_off5 k 2#32 = ![(ch (4 * k.val + 2)).val, 0, 0] := by
    rw [hc2]; exact k0_off5_eq k 2
  have hc3 : (ch (4 * k.val + 3)).val = 4 * k.val + 3 := ch_val (by omega)
  have cl3 : k0_off1 i k 3#32 = ![I.g.val, (ch (4 * k.val + 3)).val] := by
    rw [hc3, hg]; exact k0_off1_eq i k 3
  have tk3 : k0_off2 k 3#32 = ![0, (ch (4 * k.val + 3)).val, 0] := by
    rw [hc3]; exact k0_off2_eq k 3
  have vo3 : k0_off3 k 3#32 = ![0, 128 * (ch (4 * k.val + 3)).val, 0] := by
    rw [hc3, show 128 * (4 * k.val + 3) = 512 * k.val + 128 * 3 from by omega]; exact k0_off3_eq k 3
  have ko3 : k0_off4 k 3#32 = ![0, 128 * (ch (4 * k.val + 3)).val, 0] := by
    rw [hc3, show 128 * (4 * k.val + 3) = 512 * k.val + 128 * 3 from by omega]; exact k0_off4_eq k 3
  have sl3 : k0_off5 k 3#32 = ![(ch (4 * k.val + 3)).val, 0, 0] := by
    rw [hc3]; exact k0_off5_eq k 3
  have hin : ∀ j : Fin 32, j.val < 4 * (k.val + 1) → j = ch (4 * k.val + 3) ∨ j = ch (4 * k.val + 2) ∨ j = ch (4 * k.val + 1) ∨ j = ch (4 * k.val + 0) ∨ j.val < 4 * k.val := by
    intro j hj; simp only [Fin.ext_iff, hc0, hc1, hc2, hc3]; omega
  unfold Inv1 k0_t1_body
  iintro ⟨HR_arg1, HR_arg2, HR_arg3, HR_arg4, HR_arg5, HR_arg6, HR_arg7, HR_arg8, ⟨%f_arg17, %hf_arg17, HW_arg17⟩, ⟨%f_arg18, %hf_arg18, HW_arg18⟩, ⟨%f_arg19, %hf_arg19, HW_arg19⟩⟩
  sl_exec
  sl_step
  isplitl [HR_arg1]; · iexact HR_arg1
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg17]
  · iexists _; isplitr; swap; · iexact HW_arg17
    ipureintro
    refine slab_step4 arg17.view f_arg17 _ _ _ _ _ _ _ _ (ch (4 * k.val + 0)) (ch (4 * k.val + 1)) (ch (4 * k.val + 2)) (ch (4 * k.val + 3)) sl0 sl1 sl2 sl3 (Ac I) ?_ ?_ ?_ ?_ (fun j => j.val < 4 * k.val) _ hf_arg17 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl
  isplitl [HW_arg18]
  · iexists _; isplitr; swap; · iexact HW_arg18
    ipureintro
    refine slab_step4 arg18.view f_arg18 _ _ _ _ _ _ _ _ (ch (4 * k.val + 0)) (ch (4 * k.val + 1)) (ch (4 * k.val + 2)) (ch (4 * k.val + 3)) sl0 sl1 sl2 sl3 (ATc I) ?_ ?_ ?_ ?_ (fun j => j.val < 4 * k.val) _ hf_arg18 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl
  · iexists _; isplitr; swap; · iexact HW_arg19
    ipureintro
    refine slab_step4 arg19.view f_arg19 _ _ _ _ _ _ _ _ (ch (4 * k.val + 0)) (ch (4 * k.val + 1)) (ch (4 * k.val + 2)) (ch (4 * k.val + 3)) sl0 sl1 sl2 sl3 (PTc I) ?_ ?_ ?_ ?_ (fun j => j.val < 4 * k.val) _ hf_arg19 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl

end Cert.Kernel

end
-- ==== Proof.Bits.Loop2.lean ====
/-
  The second loop of the kernel's body: trip `k` writes dq for chunks 2 k, 2 k + 1 and dk, dv for chunks 31 - 2 k, 30 - 2 k,
  and takes the two states two chunks on.
-/
module

public import proofs.«01_k».proof.Proof.Bits.Model

@[expose] public section

set_option maxRecDepth 8192

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen Model

variable {F : FTy → Type} [FloatOps F]

local notation "𝕄G" => MT nD τ sig Unit (Elt F) ℕ (UR sig nD τ) ℕ

/-- Before trip `k` of the second loop: the blocks read are as they were, dq is written for the first 2 k chunks, dk and dv for
the last 2 k, and the states are those after 2 k chunks. -/
def Inv2 (c : Dev nD) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) (X_arg18 : BufTy.Contents (Elt F) arg18.view.ty) (X_arg19 : BufTy.Contents (Elt F) arg19.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (∃ f : BufTy.Contents (Elt F) arg9.view.ty, ⌜∀ j : Fin 32, j.val < 2 * k → rows256 (arg9.view.read (Elt F) f) j = DQc I j⌝ ∗ (arg9.view.loc (c : Thread nD τ) ↦[arg9.view.set]{fullShare} f)) ∗ (∃ f : BufTy.Contents (Elt F) arg10.view.ty, ⌜∀ j : Fin 32, 32 ≤ j.val + 2 * k → rows256 (arg10.view.read (Elt F) f) j = DKc I j⌝ ∗ (arg10.view.loc (c : Thread nD τ) ↦[arg10.view.set]{fullShare} f)) ∗ (∃ f : BufTy.Contents (Elt F) arg11.view.ty, ⌜∀ j : Fin 32, 32 ≤ j.val + 2 * k → rows512 (arg11.view.read (Elt F) f) j = DVc I j⌝ ∗ (arg11.view.loc (c : Thread nD τ) ↦[arg11.view.set]{fullShare} f)) ∗ (∃ f : BufTy.Contents (Elt F) arg12.view.ty, ⌜arg12.view.read (Elt F) f = ST I (2 * k)⌝ ∗ (arg12.view.loc (c : Thread nD τ) ↦[arg12.view.set]{fullShare} f)) ∗ (∃ f : BufTy.Contents (Elt F) arg13.view.ty, ⌜arg13.view.read (Elt F) f = STB I (2 * k)⌝ ∗ (arg13.view.loc (c : Thread nD τ) ↦[arg13.view.set]{fullShare} f)) ∗ (∃ f : BufTy.Contents (Elt F) arg14.view.ty, ⌜arg14.view.read (Elt F) f = DS I (2 * k)⌝ ∗ (arg14.view.loc (c : Thread nD τ) ↦[arg14.view.set]{fullShare} f)) ∗ (∃ f : BufTy.Contents (Elt F) arg15.view.ty, ⌜arg15.view.read (Elt F) f = DSB I (2 * k)⌝ ∗ (arg15.view.loc (c : Thread nD τ) ↦[arg15.view.set]{fullShare} f)) ∗ (∃ f : BufTy.Contents (Elt F) arg16.view.ty, ⌜arg16.view.read (Elt F) f = DST I (2 * k)⌝ ∗ (arg16.view.loc (c : Thread nD τ) ↦[arg16.view.set]{fullShare} f)))

set_option maxHeartbeats 4000000 in
/-- One trip of the second loop takes `Inv2 k` to `Inv2 (k + 1)`. -/
theorem trip2 (𝒱 : Variants) (c : Dev nD) (bd : Option 𝒱.V) (E : Set ℕ) (i : grid0.Coords) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) (X_arg18 : BufTy.Contents (Elt F) arg18.view.ty) (X_arg19 : BufTy.Contents (Elt F) arg19.view.ty)
    (hg : I.g.val = (i 0).val) (h_arg1 : arg1.view.read (Elt F) X_arg1 = I.qs) (h_arg2 : arg2.view.read (Elt F) X_arg2 = I.ks) (h_arg3 : arg3.view.read (Elt F) X_arg3 = I.vs) (h_arg4 : arg4.view.read (Elt F) X_arg4 = I.q) (h_arg5 : arg5.view.read (Elt F) X_arg5 = I.k) (h_arg6 : arg6.view.read (Elt F) X_arg6 = I.v) (h_arg7 : arg7.view.read (Elt F) X_arg7 = I.d) (h_arg8 : arg8.view.read (Elt F) X_arg8 = I.s)
    (h_arg17 : ∀ j : Fin 32, slab (arg17.view.read (Elt F) X_arg17) j = Ac I j) (h_arg18 : ∀ j : Fin 32, slab (arg18.view.read (Elt F) X_arg18) j = ATc I j) (h_arg19 : ∀ j : Fin 32, slab (arg19.view.read (Elt F) X_arg19) j = PTc I j)
    (k : Fin k0_t2_loop.trips) (acc : Unit) :
    Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 X_arg17 X_arg18 X_arg19 k.val acc ⊢ wp frame (wpE (defs₀ (F := F)) 𝒱 (c : Thread nD τ) bd) E
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k acc) (Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 X_arg17 X_arg18 X_arg19 (k.val + 1)) := by
  have hk : k.val < 16 := Nat.lt_of_lt_of_le k.isLt k0_t2_abs.2.1
  have hc0 : (ch (2 * k.val)).val = 2 * k.val + 0 := ch_val (by omega)
  have hb0 : (ch (31 - (2 * k.val))).val = 31 - (2 * k.val + 0) := ch_val (by omega)
  have hd0 : 31 - (ch (31 - (2 * k.val))).val = 2 * k.val + 0 := by rw [hb0]; omega
  have fcl0 : k0_off6 i k 0#32 = ![I.g.val, (ch (2 * k.val)).val] := by
    rw [hc0, hg]; exact k0_off6_eq i k 0
  have fro0 : k0_off7 k 0#32 = ![0, 128 * (ch (2 * k.val)).val, 0] := by
    rw [hc0, show 128 * (2 * k.val + 0) = 256 * k.val + 128 * 0 from by omega]; exact k0_off7_eq k 0
  have frw0 : k0_off8 k 0#32 = ![0, 128 * (ch (2 * k.val)).val, 0] := by
    rw [hc0, show 128 * (2 * k.val + 0) = 256 * k.val + 128 * 0 from by omega]; exact k0_off8_eq k 0
  have fsl0 : k0_off9 k 0#32 = ![(ch (2 * k.val)).val, 0, 0] := by
    rw [hc0]; exact k0_off9_eq k 0
  have ftk0 : k0_off10 k 0#32 = ![0, (ch (2 * k.val)).val, 0] := by
    rw [hc0]; exact k0_off10_eq k 0
  have bcl0 : k0_off11 i k 0#32 = ![I.g.val, (ch (31 - (2 * k.val))).val] := by
    rw [hb0, hg]; exact k0_off11_eq i k 0
  have bro0 : k0_off12 k 0#32 = ![0, 128 * (ch (31 - (2 * k.val))).val, 0] := by
    rw [hb0, show 128 * (31 - (2 * k.val + 0)) = 3968 - (256 * k.val + 128 * 0) from by omega]; exact k0_off12_eq k 0
  have brw0 : k0_off13 k 0#32 = ![0, 128 * (ch (31 - (2 * k.val))).val, 0] := by
    rw [hb0, show 128 * (31 - (2 * k.val + 0)) = 3968 - (256 * k.val + 128 * 0) from by omega]; exact k0_off13_eq k 0
  have bsl0 : k0_off14 k 0#32 = ![(ch (31 - (2 * k.val))).val, 0, 0] := by
    rw [hb0]; exact k0_off14_eq k 0
  have btk0 : k0_off15 k 0#32 = ![0, (ch (31 - (2 * k.val))).val, 0] := by
    rw [hb0]; exact k0_off15_eq k 0
  have hc1 : (ch (2 * k.val + 1)).val = 2 * k.val + 1 := ch_val (by omega)
  have hb1 : (ch (31 - (2 * k.val + 1))).val = 31 - (2 * k.val + 1) := ch_val (by omega)
  have hd1 : 31 - (ch (31 - (2 * k.val + 1))).val = 2 * k.val + 1 := by rw [hb1]; omega
  have fcl1 : k0_off6 i k 1#32 = ![I.g.val, (ch (2 * k.val + 1)).val] := by
    rw [hc1, hg]; exact k0_off6_eq i k 1
  have fro1 : k0_off7 k 1#32 = ![0, 128 * (ch (2 * k.val + 1)).val, 0] := by
    rw [hc1, show 128 * (2 * k.val + 1) = 256 * k.val + 128 * 1 from by omega]; exact k0_off7_eq k 1
  have frw1 : k0_off8 k 1#32 = ![0, 128 * (ch (2 * k.val + 1)).val, 0] := by
    rw [hc1, show 128 * (2 * k.val + 1) = 256 * k.val + 128 * 1 from by omega]; exact k0_off8_eq k 1
  have fsl1 : k0_off9 k 1#32 = ![(ch (2 * k.val + 1)).val, 0, 0] := by
    rw [hc1]; exact k0_off9_eq k 1
  have ftk1 : k0_off10 k 1#32 = ![0, (ch (2 * k.val + 1)).val, 0] := by
    rw [hc1]; exact k0_off10_eq k 1
  have bcl1 : k0_off11 i k 1#32 = ![I.g.val, (ch (31 - (2 * k.val + 1))).val] := by
    rw [hb1, hg]; exact k0_off11_eq i k 1
  have bro1 : k0_off12 k 1#32 = ![0, 128 * (ch (31 - (2 * k.val + 1))).val, 0] := by
    rw [hb1, show 128 * (31 - (2 * k.val + 1)) = 3968 - (256 * k.val + 128 * 1) from by omega]; exact k0_off12_eq k 1
  have brw1 : k0_off13 k 1#32 = ![0, 128 * (ch (31 - (2 * k.val + 1))).val, 0] := by
    rw [hb1, show 128 * (31 - (2 * k.val + 1)) = 3968 - (256 * k.val + 128 * 1) from by omega]; exact k0_off13_eq k 1
  have bsl1 : k0_off14 k 1#32 = ![(ch (31 - (2 * k.val + 1))).val, 0, 0] := by
    rw [hb1]; exact k0_off14_eq k 1
  have btk1 : k0_off15 k 1#32 = ![0, (ch (31 - (2 * k.val + 1))).val, 0] := by
    rw [hb1]; exact k0_off15_eq k 1
  have hinF : ∀ j : Fin 32, j.val < 2 * (k.val + 1) → j = ch (2 * k.val + 1) ∨ j = ch (2 * k.val) ∨ j.val < 2 * k.val := by
    intro j hj; simp only [Fin.ext_iff, hc0, hc1]; omega
  have hinB : ∀ j : Fin 32, 32 ≤ j.val + 2 * (k.val + 1) → j = ch (31 - (2 * k.val + 1)) ∨ j = ch (31 - 2 * k.val) ∨ 32 ≤ j.val + 2 * k.val := by
    intro j hj; simp only [Fin.ext_iff, hb0, hb1]; omega
  have he : 2 * (k.val + 1) = 2 * k.val + 1 + 1 := by omega
  unfold Inv2 k0_t2_body
  iintro ⟨HR_arg1, HR_arg2, HR_arg3, HR_arg4, HR_arg5, HR_arg6, HR_arg7, HR_arg8, HR_arg17, HR_arg18, HR_arg19, ⟨%f_arg9, %hf_arg9, HW_arg9⟩, ⟨%f_arg10, %hf_arg10, HW_arg10⟩, ⟨%f_arg11, %hf_arg11, HW_arg11⟩, ⟨%f_arg12, %hf_arg12, HW_arg12⟩, ⟨%f_arg13, %hf_arg13, HW_arg13⟩, ⟨%f_arg14, %hf_arg14, HW_arg14⟩, ⟨%f_arg15, %hf_arg15, HW_arg15⟩, ⟨%f_arg16, %hf_arg16, HW_arg16⟩⟩
  sl_exec
  sl_step
  isplitl [HR_arg1]; · iexact HR_arg1
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HR_arg17]; · iexact HR_arg17
  isplitl [HR_arg18]; · iexact HR_arg18
  isplitl [HR_arg19]; · iexact HR_arg19
  isplitl [HW_arg9]
  · iexists _; isplitr; swap; · iexact HW_arg9
    ipureintro
    refine rows256_step2 arg9.view f_arg9 _ _ _ _ (ch (2 * k.val)) (ch (2 * k.val + 1)) fro0 fro1 (DQc I) ?_ ?_ (fun j => j.val < 2 * k.val) _ hf_arg9 hinF
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DQc, hc0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DQc, hc1]
      rfl
  isplitl [HW_arg10]
  · iexists _; isplitr; swap; · iexact HW_arg10
    ipureintro
    refine rows256_step2 arg10.view f_arg10 _ _ _ _ (ch (31 - 2 * k.val)) (ch (31 - (2 * k.val + 1))) bro0 bro1 (DKc I) ?_ ?_ (fun j => 32 ≤ j.val + 2 * k.val) _ hf_arg10 hinB
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DKc, hd0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DKc, hd1]
      rfl
  isplitl [HW_arg11]
  · iexists _; isplitr; swap; · iexact HW_arg11
    ipureintro
    refine rows512_step2 arg11.view f_arg11 _ _ _ _ (ch (31 - 2 * k.val)) (ch (31 - (2 * k.val + 1))) brw0 brw1 (DVc I) ?_ ?_ (fun j => 32 ≤ j.val + 2 * k.val) _ hf_arg11 hinB
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DVc, hd0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DVc, hd1]
      rfl
  isplitl [HW_arg12]
  · iexists _; isplitr; swap; · iexact HW_arg12
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg13]
  · iexists _; isplitr; swap; · iexact HW_arg13
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg14]
  · iexists _; isplitr; swap; · iexact HW_arg14
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg15]
  · iexists _; isplitr; swap; · iexact HW_arg15
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  · iexists _; isplitr; swap; · iexact HW_arg16
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl

end Cert.Kernel

end
-- ==== Proof.Bits.Frame.lean ====
/-
  The kernel's run: the body's triple at one grid point from the two loops, the pipeline's proof data, the launch, the frame.
-/
module

public import proofs.«01_k».proof.Proof.Bits.Loop1
public import proofs.«01_k».proof.Proof.Bits.Loop2
public import proofs.«01_k».proof.Proof.Gen.Kernel.Frame
public import Idealize.ShloMosaic.Lib.Claim

@[expose] public section

set_option maxRecDepth 8192

noncomputable section

namespace Cert.Kernel.Run

open Cert.Kernel Cert.Kernel.Gen Cert.Kernel.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips1 : Scf.trips k0_t1_loop.lb k0_t1_loop.ub k0_t1_loop.st = 8 := by decide
theorem trips2 : Scf.trips k0_t2_loop.lb k0_t2_loop.ub k0_t2_loop.st = 16 := by decide

set_option maxHeartbeats 4000000 in
/-- The body at one grid point, the blocks read at `I`: it leaves them as they are, and dq, dk, dv at the model's blocks. -/
theorem sound_kernel (c : Dev nD) (E : Set ℕ) (i : grid0.Coords) (I : In F) (hg : I.g.val = (i 0).val) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (K : PUnit → sProp 𝕄) :
    iprop(owns (c : Thread nD τ) arg1 fullShare I.qs ∗ owns (c : Thread nD τ) arg2 fullShare I.ks ∗ owns (c : Thread nD τ) arg3 fullShare I.vs ∗ owns (c : Thread nD τ) arg4 fullShare I.q ∗ owns (c : Thread nD τ) arg5 fullShare I.k ∗ owns (c : Thread nD τ) arg6 fullShare I.v ∗ owns (c : Thread nD τ) arg7 fullShare I.d ∗ owns (c : Thread nD τ) arg8 fullShare I.s ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare I.qs ∗ owns (c : Thread nD τ) arg2 fullShare I.ks ∗ owns (c : Thread nD τ) arg3 fullShare I.vs ∗ owns (c : Thread nD τ) arg4 fullShare I.q ∗ owns (c : Thread nD τ) arg5 fullShare I.k ∗ owns (c : Thread nD τ) arg6 fullShare I.v ∗ owns (c : Thread nD τ) arg7 fullShare I.d ∗ owns (c : Thread nD τ) arg8 fullShare I.s ∗ owns (c : Thread nD τ) arg9 fullShare (DQ I) ∗ owns (c : Thread nD τ) arg10 fullShare (DK I) ∗ owns (c : Thread nD τ) arg11 fullShare (DV I) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_linattn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_linattn_bwd_eq_skeleton]; unfold cc0_linattn_bwd_skel
  unfold owns
  iintro ⟨⟨%f_arg1, %hf_arg1, HR_arg1⟩, ⟨%f_arg2, %hf_arg2, HR_arg2⟩, ⟨%f_arg3, %hf_arg3, HR_arg3⟩, ⟨%f_arg4, %hf_arg4, HR_arg4⟩, ⟨%f_arg5, %hf_arg5, HR_arg5⟩, ⟨%f_arg6, %hf_arg6, HR_arg6⟩, ⟨%f_arg7, %hf_arg7, HR_arg7⟩, ⟨%f_arg8, %hf_arg8, HR_arg8⟩, ⟨%d_arg9, %f_arg9, -, HW_arg9⟩, ⟨%d_arg10, %f_arg10, -, HW_arg10⟩, ⟨%d_arg11, %f_arg11, -, HW_arg11⟩, ⟨%d_arg12, %f_arg12, -, HW_arg12⟩, ⟨%d_arg13, %f_arg13, -, HW_arg13⟩, ⟨%d_arg14, %f_arg14, -, HW_arg14⟩, ⟨%d_arg15, %f_arg15, -, HW_arg15⟩, ⟨%d_arg16, %f_arg16, -, HW_arg16⟩, ⟨%d_arg17, %f_arg17, -, HW_arg17⟩, ⟨%d_arg18, %f_arg18, -, HW_arg18⟩, ⟨%d_arg19, %f_arg19, -, HW_arg19⟩, Hk⟩
  sl_exec
  sl_for (Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f_arg1 f_arg2 f_arg3 f_arg4 f_arg5 f_arg6 f_arg7 f_arg8) $$ [HR_arg1 HR_arg2 HR_arg3 HR_arg4 HR_arg5 HR_arg6 HR_arg7 HR_arg8 HW_arg17 HW_arg18 HW_arg19]
  case region =>
    intro k acc
    exact trip1 Variants.none c none E i I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f_arg1 f_arg2 f_arg3 f_arg4 f_arg5 f_arg6 f_arg7 f_arg8 hg hf_arg1 hf_arg2 hf_arg3 hf_arg4 hf_arg5 hf_arg6 hf_arg7 hf_arg8 k acc
  · unfold Inv1

    isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg17]
    · iexists _; isplitr; swap; · iexact HW_arg17
      ipureintro; intro j hj; omega
    isplitl [HW_arg18]
    · iexists _; isplitr; swap; · iexact HW_arg18
      ipureintro; intro j hj; omega
    · iexists _; isplitr; swap; · iexact HW_arg19
      ipureintro; intro j hj; omega
  rw [trips1]
  unfold Inv1
  iintro %acc ⟨HR_arg1, HR_arg2, HR_arg3, HR_arg4, HR_arg5, HR_arg6, HR_arg7, HR_arg8, ⟨%g_arg17, %hg_arg17, HW_arg17⟩, ⟨%g_arg18, %hg_arg18, HW_arg18⟩, ⟨%g_arg19, %hg_arg19, HW_arg19⟩⟩
  sl_exec
  sl_for (Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f_arg1 f_arg2 f_arg3 f_arg4 f_arg5 f_arg6 f_arg7 f_arg8 g_arg17 g_arg18 g_arg19) $$ [HR_arg1 HR_arg2 HR_arg3 HR_arg4 HR_arg5 HR_arg6 HR_arg7 HR_arg8 HW_arg17 HW_arg18 HW_arg19 HW_arg9 HW_arg10 HW_arg11 HW_arg12 HW_arg13 HW_arg14 HW_arg15 HW_arg16]
  case region =>
    intro k acc
    exact trip2 Variants.none c none E i I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f_arg1 f_arg2 f_arg3 f_arg4 f_arg5 f_arg6 f_arg7 f_arg8 g_arg17 g_arg18 g_arg19 hg hf_arg1 hf_arg2 hf_arg3 hf_arg4 hf_arg5 hf_arg6 hf_arg7 hf_arg8 (fun j => hg_arg17 j (by have := j.isLt; omega)) (fun j => hg_arg18 j (by have := j.isLt; omega)) (fun j => hg_arg19 j (by have := j.isLt; omega)) k acc
  · unfold Inv2

    isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg17]; · iexact HW_arg17
    isplitl [HW_arg18]; · iexact HW_arg18
    isplitl [HW_arg19]; · iexact HW_arg19
    isplitl [HW_arg9]
    · iexists _; isplitr; swap; · iexact HW_arg9
      ipureintro; intro j hj; have := j.isLt; omega
    isplitl [HW_arg10]
    · iexists _; isplitr; swap; · iexact HW_arg10
      ipureintro; intro j hj; have := j.isLt; omega
    isplitl [HW_arg11]
    · iexists _; isplitr; swap; · iexact HW_arg11
      ipureintro; intro j hj; have := j.isLt; omega
    isplitl [HW_arg12]
    · iexists _; isplitr; swap; · iexact HW_arg12
      ipureintro; sl_unfold_run_names; exact View.read_writes_full _ _ _ _ _
    isplitl [HW_arg13]
    · iexists _; isplitr; swap; · iexact HW_arg13
      ipureintro; sl_unfold_run_names; exact View.read_writes_full _ _ _ _ _
    isplitl [HW_arg14]
    · iexists _; isplitr; swap; · iexact HW_arg14
      ipureintro; sl_unfold_run_names; exact View.read_writes_full _ _ _ _ _
    isplitl [HW_arg15]
    · iexists _; isplitr; swap; · iexact HW_arg15
      ipureintro; sl_unfold_run_names; exact View.read_writes_full _ _ _ _ _
    · iexists _; isplitr; swap; · iexact HW_arg16
      ipureintro; sl_unfold_run_names; exact View.read_writes_full _ _ _ _ _
  rw [trips2]
  unfold Inv2
  iintro %acc2 ⟨HR_arg1, HR_arg2, HR_arg3, HR_arg4, HR_arg5, HR_arg6, HR_arg7, HR_arg8, HR_arg17, HR_arg18, HR_arg19, ⟨%e_arg9, %he_arg9, HW_arg9⟩, ⟨%e_arg10, %he_arg10, HW_arg10⟩, ⟨%e_arg11, %he_arg11, HW_arg11⟩, ⟨%e_arg12, %he_arg12, HW_arg12⟩, ⟨%e_arg13, %he_arg13, HW_arg13⟩, ⟨%e_arg14, %he_arg14, HW_arg14⟩, ⟨%e_arg15, %he_arg15, HW_arg15⟩, ⟨%e_arg16, %he_arg16, HW_arg16⟩⟩
  sl_exec
  sl_step
  iapply Hk
  isplitl [HR_arg1]
  · iexists _; isplitr; swap; · iexact HR_arg1
    ipureintro; exact hf_arg1
  isplitl [HR_arg2]
  · iexists _; isplitr; swap; · iexact HR_arg2
    ipureintro; exact hf_arg2
  isplitl [HR_arg3]
  · iexists _; isplitr; swap; · iexact HR_arg3
    ipureintro; exact hf_arg3
  isplitl [HR_arg4]
  · iexists _; isplitr; swap; · iexact HR_arg4
    ipureintro; exact hf_arg4
  isplitl [HR_arg5]
  · iexists _; isplitr; swap; · iexact HR_arg5
    ipureintro; exact hf_arg5
  isplitl [HR_arg6]
  · iexists _; isplitr; swap; · iexact HR_arg6
    ipureintro; exact hf_arg6
  isplitl [HR_arg7]
  · iexists _; isplitr; swap; · iexact HR_arg7
    ipureintro; exact hf_arg7
  isplitl [HR_arg8]
  · iexists _; isplitr; swap; · iexact HR_arg8
    ipureintro; exact hf_arg8
  isplitl [HW_arg9]
  · iexists _; isplitr; swap; · iexact HW_arg9
    ipureintro; exact eq_of_rows256 _ (DQc I) (fun j => he_arg9 j (by have := j.isLt; omega))
  isplitl [HW_arg10]
  · iexists _; isplitr; swap; · iexact HW_arg10
    ipureintro; exact eq_of_rows256 _ (DKc I) (fun j => he_arg10 j (by have := j.isLt; omega))
  isplitl [HW_arg11]
  · iexists _; isplitr; swap; · iexact HW_arg11
    ipureintro; exact eq_of_rows512 _ (DVc I) (fun j => he_arg11 j (by have := j.isLt; omega))
  isplitl [HW_arg12]
  · iexists _; iexists _; isplitr; swap; · iexact HW_arg12
    ipureintro; rfl
  isplitl [HW_arg13]
  · iexists _; iexists _; isplitr; swap; · iexact HW_arg13
    ipureintro; rfl
  isplitl [HW_arg14]
  · iexists _; iexists _; isplitr; swap; · iexact HW_arg14
    ipureintro; rfl
  isplitl [HW_arg15]
  · iexists _; iexists _; isplitr; swap; · iexact HW_arg15
    ipureintro; rfl
  isplitl [HW_arg16]
  · iexists _; iexists _; isplitr; swap; · iexact HW_arg16
    ipureintro; rfl
  isplitl [HR_arg17]
  · iexists _; iexists _; isplitr; swap; · iexact HR_arg17
    ipureintro; rfl
  isplitl [HR_arg18]
  · iexists _; iexists _; isplitr; swap; · iexact HR_arg18
    ipureintro; rfl
  · iexists _; iexists _; isplitr; swap; · iexact HR_arg19
    ipureintro; rfl

variable (m : (ℓ : Loc nD τ sig) → Buf (Elt F) ℓ) (ρ : Dev nD → PrngReg)

/-- The blocks read at grid point `t`. -/
def In0 (c : Dev nD) (t : Fin cfg0.N) : In F where
  g := grid0.coords t 0
  qs := iblk m c 0 t
  ks := iblk m c 1 t
  vs := iblk m c 2 t
  q := iblk m c 3 t
  k := iblk m c 4 t
  v := iblk m c 5 t
  d := iblk m c 6 t
  s := iblk m c 7 t

/-- The proof data of the pipeline on core `c`: after the body at point `t` each input's buffer holds its block and the three
outputs' buffers the model's dq, dk and dv. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DQ (In0 m c t)
    | ⟨9, _⟩ => DK (In0 m c t)
    | ⟨10, _⟩ => DV (In0 m c t)
  Φ _ := Pipeline.ΦA spec0 c
  q _ := fullShare
  owed _ := 0

/-- The proof data's arrays are the ones the region finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DQ (In0 m c t) := by dsimp only [dats]
theorem after0_9 (c : Dev nD) (t : Fin cfg0.N) : (dats m 0 c).after 9 t = DK (In0 m c t) := by dsimp only [dats]
theorem after0_10 (c : Dev nD) (t : Fin cfg0.N) : (dats m 0 c).after 10 t = DV (In0 m c t) := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  simp only [← owns_whole (c : Thread nD τ) cc0_scratch0, ← owns_whole (c : Thread nD τ) cc0_scratch1, ← owns_whole (c : Thread nD τ) cc0_scratch2, ← owns_whole (c : Thread nD τ) cc0_scratch3, ← owns_whole (c : Thread nD τ) cc0_scratch4, ← owns_whole (c : Thread nD τ) cc0_scratch5, ← owns_whole (c : Thread nD τ) cc0_scratch6, ← owns_whole (c : Thread nD τ) cc0_scratch7]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (In0 m c t) rfl _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨H0, H1, H2, H3, H4, H5, H6, H7, H8, H9, H10, S0, S1, S2, S3, S4, S5, S6, S7⟩
  isplitl [S0 S1 S2 S3 S4 S5 S6 S7 Hp]
  · isplitr [Hp]; swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution terminates with every array of the pipeline at what the proof data gives, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Run

end
-- ==== Proof.Ideal.Model.lean ====
/-
  The kernel's body as plain functions of one grid point's blocks. A grid point is one (batch, head) pair; its sequence of
  4096 rows is cut into 32 chunks of 128 rows. `ATc`, `Ac`, `PTc` are the three masked score blocks of a chunk; `ST n` /
  `STB n` are the forward state after `n` chunks (in f32, and as it is rounded to bf16), `DS n` / `DSB n` / `DST n` the
  backward state after the last `n` chunks (in f32, rounded, rounded and transposed); `DQc`, `DKc`, `DVc` are what the
  body leaves in a chunk's rows of the three results, and `DQ`, `DK`, `DV` the results' blocks.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

noncomputable section

namespace Cert.KernelIdeal.Model

open Idealize.ShloMosaic Idealize.ShloMosaic.TcCoe Cert.KernelIdeal.Gen

variable {F : FTy → Type} [FloatOps F]

/-- Chunk number `n` (of 32). -/
def ch (n : ℕ) : Fin 32 := ⟨n % 32, Nat.mod_lt _ (by decide)⟩

theorem ch_val {n : ℕ} (h : n < 32) : (ch n).val = n := Nat.mod_eq_of_lt h

/-- The blocks one grid point reads: the scale tables (whole) with the table's row `g`, the rows of q, k, v, do and the scales of do. -/
structure In (F : FTy → Type) where
  g : Fin 48
  qs : S48x32.Idx → Elt F .f32
  ks : S48x32.Idx → Elt F .f32
  vs : S48x32.Idx → Elt F .f32
  q : S1x4096x256.Idx → Elt F .fp8e4m3
  k : S1x4096x256.Idx → Elt F .fp8e4m3
  v : S1x4096x512.Idx → Elt F .fp8e4m3
  d : S1x4096x512.Idx → Elt F .fp8e5m2
  s : S1x32x128.Idx → Elt F .f32

section Windows

variable {α : Type}

theorem inb256 (c : Fin 32) : ∀ a : Fin 3, (![0, 128 * c.val, 0] : Fin 3 → ℕ) a + S1x128x256.size a ≤ S1x4096x256.size a := by
  intro a; have := c.isLt
  match a with
  | ⟨0, _⟩ => show 0 + 1 ≤ 1; omega
  | ⟨1, _⟩ => show 128 * c.val + 128 ≤ 4096; omega
  | ⟨2, _⟩ => show 0 + 256 ≤ 256; omega

theorem inb512 (c : Fin 32) : ∀ a : Fin 3, (![0, 128 * c.val, 0] : Fin 3 → ℕ) a + S1x128x512.size a ≤ S1x4096x512.size a := by
  intro a; have := c.isLt
  match a with
  | ⟨0, _⟩ => show 0 + 1 ≤ 1; omega
  | ⟨1, _⟩ => show 128 * c.val + 128 ≤ 4096; omega
  | ⟨2, _⟩ => show 0 + 512 ≤ 512; omega

theorem inbTok (c : Fin 32) : ∀ a : Fin 3, (![0, c.val, 0] : Fin 3 → ℕ) a + S1x1x128.size a ≤ S1x32x128.size a := by
  intro a; have := c.isLt
  match a with
  | ⟨0, _⟩ => show 0 + 1 ≤ 1; omega
  | ⟨1, _⟩ => show c.val + 1 ≤ 32; omega
  | ⟨2, _⟩ => show 0 + 128 ≤ 128; omega

theorem inbSlab (c : Fin 32) : ∀ a : Fin 3, (![c.val, 0, 0] : Fin 3 → ℕ) a + S1x128x128.size a ≤ S32x128x128.size a := by
  intro a; have := c.isLt
  match a with
  | ⟨0, _⟩ => show c.val + 1 ≤ 32; omega
  | ⟨1, _⟩ => show 0 + 128 ≤ 128; omega
  | ⟨2, _⟩ => show 0 + 128 ≤ 128; omega

theorem inbCell (g : Fin 48) (c : Fin 32) : ∀ a : Fin 2, (![g.val, c.val] : Fin 2 → ℕ) a + S1x1.size a ≤ S48x32.size a := by
  intro a; have := c.isLt; have := g.isLt
  match a with
  | ⟨0, _⟩ => show g.val + 1 ≤ 48; omega
  | ⟨1, _⟩ => show c.val + 1 ≤ 32; omega

/-- Chunk `c`'s rows of an array of 256 columns. -/
def rows256 (x : S1x4096x256.Idx → α) (c : Fin 32) : S1x128x256.Idx → α :=
  VecWindow.window (s := S1x4096x256) x ![0, 128 * c.val, 0] S1x128x256.size (inb256 c)

/-- Chunk `c`'s rows of an array of 512 columns. -/
def rows512 (x : S1x4096x512.Idx → α) (c : Fin 32) : S1x128x512.Idx → α :=
  VecWindow.window (s := S1x4096x512) x ![0, 128 * c.val, 0] S1x128x512.size (inb512 c)

/-- Chunk `c`'s scales of do. -/
def tok (x : S1x32x128.Idx → α) (c : Fin 32) : S1x1x128.Idx → α :=
  VecWindow.window (s := S1x32x128) x ![0, c.val, 0] S1x1x128.size (inbTok c)

/-- Chunk `c`'s block of a buffer of 32 score blocks. -/
def slab (x : S32x128x128.Idx → α) (c : Fin 32) : S1x128x128.Idx → α :=
  VecWindow.window (s := S32x128x128) x ![c.val, 0, 0] S1x128x128.size (inbSlab c)

/-- Chunk `c`'s scale in row `g` of a scale table. -/
def cell (x : S48x32.Idx → α) (g : Fin 48) (c : Fin 32) : α :=
  VecWindow.window (s := S48x32) x ![g.val, c.val] S1x1.size (inbCell g c) (Shape.Idx.first (s := S1x1) (by decide))

end Windows

section Chunks

variable (I : In F)

/-- The masked block of `do · vᵀ`, transposed: entry (key, query). -/
def XVc (c : Fin 32) : FVec F S128x128 .f32 := k0_pay17 k0_pay1 (rows512 I.v c) (rows512 I.d c)
/-- The block that dk multiplies by q. -/
def ATc (c : Fin 32) : S1x128x128.Idx → Elt F .bf16 := k0_pay20 (cell I.qs I.g c) (k0_pay16 (tok I.s c)) (XVc I c)
/-- The block that dq multiplies by k. -/
def Ac (c : Fin 32) : S1x128x128.Idx → Elt F .bf16 := k0_pay21 (cell I.ks I.g c) (cell I.vs I.g c) (XVc I c)
/-- The block that dv multiplies by do. -/
def PTc (c : Fin 32) : S1x128x128.Idx → Elt F .bf16 :=
  k0_pay22 k0_pay1 (cell I.qs I.g c) (k0_pay16 (tok I.s c)) (k0_pay18 (rows256 I.k c)) (k0_pay19 (rows256 I.q c))

/-- The forward state after `n` chunks. -/
def ST : ℕ → (S512x256.Idx → Elt F .f32)
  | 0 => k0_pay2
  | n + 1 => k0_pay46 (cell I.ks I.g (ch n)) (cell I.vs I.g (ch n)) (k0_pay39 (rows256 I.k (ch n))) (k0_pay40 (rows512 I.v (ch n))) (ST n)
/-- The forward state after `n` chunks, rounded. -/
def STB : ℕ → (S512x256.Idx → Elt F .bf16)
  | 0 => k0_pay3
  | n + 1 => k0_pay47 (cell I.ks I.g (ch n)) (cell I.vs I.g (ch n)) (k0_pay39 (rows256 I.k (ch n))) (k0_pay40 (rows512 I.v (ch n))) (ST I n)
/-- The backward state after the last `n` chunks. -/
def DS : ℕ → (S256x512.Idx → Elt F .f32)
  | 0 => k0_pay4
  | n + 1 => k0_pay54 (cell I.qs I.g (ch (31 - n))) (k0_pay48 (rows256 I.q (ch (31 - n)))) (k0_pay49 (rows512 I.d (ch (31 - n)))) (tok I.s (ch (31 - n))) (DS n)
/-- The backward state after the last `n` chunks, rounded. -/
def DSB : ℕ → (S256x512.Idx → Elt F .bf16)
  | 0 => k0_pay5
  | n + 1 => k0_pay56 (cell I.qs I.g (ch (31 - n))) (k0_pay48 (rows256 I.q (ch (31 - n)))) (k0_pay49 (rows512 I.d (ch (31 - n)))) (tok I.s (ch (31 - n))) (DS I n)
/-- The backward state after the last `n` chunks, rounded and transposed. -/
def DST : ℕ → (S512x256.Idx → Elt F .bf16)
  | 0 => k0_pay6
  | n + 1 => k0_pay57 (cell I.qs I.g (ch (31 - n))) (k0_pay48 (rows256 I.q (ch (31 - n)))) (k0_pay49 (rows512 I.d (ch (31 - n)))) (tok I.s (ch (31 - n))) (DS I n)

/-- Chunk `c`'s rows of dq. -/
def DQc (c : Fin 32) : S1x128x256.Idx → Elt F .bf16 :=
  k0_pay44 (k0_pay41 (rows256 I.k c) (rows512 I.d c) (STB I c.val) (Ac I c)) (k0_pay42 (tok I.s c)) k0_pay43
/-- Chunk `c`'s rows of dk. -/
def DKc (c : Fin 32) : S1x128x256.Idx → Elt F .bf16 :=
  k0_pay50 (cell I.vs I.g c) (k0_pay48 (rows256 I.q c)) (rows512 I.v c) (DST I (31 - c.val)) (ATc I c)
/-- Chunk `c`'s rows of dv. -/
def DVc (c : Fin 32) : S1x128x512.Idx → Elt F .bf16 :=
  k0_pay52 (cell I.ks I.g c) (k0_pay49 (rows512 I.d c)) (k0_pay51 (rows256 I.k c) (DSB I (31 - c.val))) (PTc I c)

end Chunks

/-- The chunk of a row. -/
def chunkOf (r : Fin 4096) : Fin 32 := ⟨r.val / 128, by have := r.isLt; omega⟩
/-- A row's place in its chunk. -/
def inChunk (r : Fin 4096) : Fin 128 := ⟨r.val % 128, Nat.mod_lt _ (by decide)⟩

/-- The place of an index of an array of 256 columns in its chunk's rows. -/
def loc256 (j : S1x4096x256.Idx) : S1x128x256.Idx := Fin.cons (j 0) (Fin.cons (inChunk (j 1)) (Fin.cons (j 2) finZeroElim))
/-- The place of an index of an array of 512 columns in its chunk's rows. -/
def loc512 (j : S1x4096x512.Idx) : S1x128x512.Idx := Fin.cons (j 0) (Fin.cons (inChunk (j 1)) (Fin.cons (j 2) finZeroElim))

/-- The block of dq at the grid point. -/
def DQ (I : In F) : S1x4096x256.Idx → Elt F .bf16 := fun j => DQc I (chunkOf (j 1)) (loc256 j)
/-- The block of dk at the grid point. -/
def DK (I : In F) : S1x4096x256.Idx → Elt F .bf16 := fun j => DKc I (chunkOf (j 1)) (loc256 j)
/-- The block of dv at the grid point. -/
def DV (I : In F) : S1x4096x512.Idx → Elt F .bf16 := fun j => DVc I (chunkOf (j 1)) (loc512 j)

/-- An array of 256 columns is known from its chunks. -/
theorem eq_of_rows256 {α : Type} (x : S1x4096x256.Idx → α) (G : Fin 32 → S1x128x256.Idx → α) (h : ∀ c, rows256 x c = G c) :
    x = fun j => G (chunkOf (j 1)) (loc256 j) := by
  funext j
  rw [← h]
  refine congrArg x (funext fun a => Fin.ext ?_)
  match a with
  | ⟨0, _⟩ => show (j 0).val = 0 + 1 * (j 0).val; omega
  | ⟨1, _⟩ => show (j 1).val = 128 * ((j 1).val / 128) + 1 * ((j 1).val % 128); omega
  | ⟨2, _⟩ => show (j 2).val = 0 + 1 * (j 2).val; omega

/-- An array of 512 columns is known from its chunks. -/
theorem eq_of_rows512 {α : Type} (x : S1x4096x512.Idx → α) (G : Fin 32 → S1x128x512.Idx → α) (h : ∀ c, rows512 x c = G c) :
    x = fun j => G (chunkOf (j 1)) (loc512 j) := by
  funext j
  rw [← h]
  refine congrArg x (funext fun a => Fin.ext ?_)
  match a with
  | ⟨0, _⟩ => show (j 0).val = 0 + 1 * (j 0).val; omega
  | ⟨1, _⟩ => show (j 1).val = 128 * ((j 1).val / 128) + 1 * ((j 1).val % 128); omega
  | ⟨2, _⟩ => show (j 2).val = 0 + 1 * (j 2).val; omega

section Reads

variable {sig : RefSig} {κ : Kind} {sp : Space} {e : EltTy} {Val : EltTy → Type}

/-- A load of chunk `c` through a view. -/
theorem read_rows256 (v : View sig κ sp S1x4096x256 e) (f : v.ty.Contents Val) {off : Fin 3 → ℕ}
    (inb : ∀ a, off a + S1x128x256.size a ≤ S1x4096x256.size a) (c : Fin 32) (h : off = ![0, 128 * c.val, 0]) :
    v.readAt Val (Rect.unit (s := S1x4096x256) off S1x128x256.size inb).toLoadRect f = rows256 (v.read Val f) c :=
  View.readAt_unit v f inb h (inb256 c)

/-- After a store of chunk `c`, chunk `c` is what was stored. -/
theorem rows256_hit (v : View sig κ sp S1x4096x256 e) (f : v.ty.Contents Val) {off : Fin 3 → ℕ}
    (inb : ∀ a, off a + S1x128x256.size a ≤ S1x4096x256.size a) (w : (Rect.unit (s := S1x4096x256) off S1x128x256.size inb).shape.Idx → Val e)
    (L : List (View.Piece Val S1x4096x256 e)) (c : Fin 32) (h : off = ![0, 128 * c.val, 0]) :
    rows256 (v.read Val (v.writes Val f (⟨Rect.unit off S1x128x256.size inb, w⟩ :: L))) c = w := by
  rw [View.read_writes_cons_put v f inb w L h]
  exact VecWindow.window_put_same _ _ _ (inb256 c) _

/-- After a store of chunk `c`, another chunk is what it was. -/
theorem rows256_miss (v : View sig κ sp S1x4096x256 e) (f : v.ty.Contents Val) {off : Fin 3 → ℕ}
    (inb : ∀ a, off a + S1x128x256.size a ≤ S1x4096x256.size a) (w : (Rect.unit (s := S1x4096x256) off S1x128x256.size inb).shape.Idx → Val e)
    (L : List (View.Piece Val S1x4096x256 e)) (c c' : Fin 32) (h : off = ![0, 128 * c.val, 0]) (hne : c' ≠ c) :
    rows256 (v.read Val (v.writes Val f (⟨Rect.unit off S1x128x256.size inb, w⟩ :: L))) c' = rows256 (v.read Val (v.writes Val f L)) c' := by
  rw [View.read_writes_cons_put v f inb w L h]
  refine VecWindow.window_put_of_disjoint _ _ _ _ _ (inb256 c') _ ((1 : Fin 3) : Fin S1x4096x256.rank) ?_
  have hv : c'.val ≠ c.val := fun e => hne (Fin.ext e)
  show 128 * c'.val + 128 ≤ 128 * c.val ∨ 128 * c.val + 128 ≤ 128 * c'.val
  omega

/-- After stores of two chunks, the chunks stored before or now are as `G` says. -/
theorem rows256_step2 (v : View sig κ sp S1x4096x256 e) (f : v.ty.Contents Val) {o0 o1 : Fin 3 → ℕ}
    (i0 : ∀ a, o0 a + S1x128x256.size a ≤ S1x4096x256.size a) (i1 : ∀ a, o1 a + S1x128x256.size a ≤ S1x4096x256.size a)
    (w0 : (Rect.unit (s := S1x4096x256) o0 S1x128x256.size i0).shape.Idx → Val e) (w1 : (Rect.unit (s := S1x4096x256) o1 S1x128x256.size i1).shape.Idx → Val e)
    (c0 c1 : Fin 32) (h0 : o0 = ![0, 128 * c0.val, 0]) (h1 : o1 = ![0, 128 * c1.val, 0])
    (G : Fin 32 → S1x128x256.Idx → Val e) (e0 : w0 = G c0) (e1 : w1 = G c1) (P P' : Fin 32 → Prop)
    (hold : ∀ c, P c → rows256 (v.read Val f) c = G c) (hP : ∀ c, P' c → c = c1 ∨ c = c0 ∨ P c) :
    ∀ c, P' c → rows256 (v.read Val (v.writes Val f [⟨Rect.unit o1 S1x128x256.size i1, w1⟩, ⟨Rect.unit o0 S1x128x256.size i0, w0⟩])) c = G c := by
  intro c hc
  by_cases k1 : c = c1
  · rw [k1, rows256_hit v f i1 w1 _ c1 h1, e1]
  rw [rows256_miss v f i1 w1 _ c1 c h1 k1]
  by_cases k0 : c = c0
  · rw [k0, rows256_hit v f i0 w0 _ c0 h0, e0]
  rw [rows256_miss v f i0 w0 _ c0 c h0 k0, View.writes_nil]
  rcases hP c hc with h | h | h
  · exact absurd h k1
  · exact absurd h k0
  · exact hold c h

/-- A load of chunk `c` through a view. -/
theorem read_rows512 (v : View sig κ sp S1x4096x512 e) (f : v.ty.Contents Val) {off : Fin 3 → ℕ}
    (inb : ∀ a, off a + S1x128x512.size a ≤ S1x4096x512.size a) (c : Fin 32) (h : off = ![0, 128 * c.val, 0]) :
    v.readAt Val (Rect.unit (s := S1x4096x512) off S1x128x512.size inb).toLoadRect f = rows512 (v.read Val f) c :=
  View.readAt_unit v f inb h (inb512 c)

/-- After a store of chunk `c`, chunk `c` is what was stored. -/
theorem rows512_hit (v : View sig κ sp S1x4096x512 e) (f : v.ty.Contents Val) {off : Fin 3 → ℕ}
    (inb : ∀ a, off a + S1x128x512.size a ≤ S1x4096x512.size a) (w : (Rect.unit (s := S1x4096x512) off S1x128x512.size inb).shape.Idx → Val e)
    (L : List (View.Piece Val S1x4096x512 e)) (c : Fin 32) (h : off = ![0, 128 * c.val, 0]) :
    rows512 (v.read Val (v.writes Val f (⟨Rect.unit off S1x128x512.size inb, w⟩ :: L))) c = w := by
  rw [View.read_writes_cons_put v f inb w L h]
  exact VecWindow.window_put_same _ _ _ (inb512 c) _

/-- After a store of chunk `c`, another chunk is what it was. -/
theorem rows512_miss (v : View sig κ sp S1x4096x512 e) (f : v.ty.Contents Val) {off : Fin 3 → ℕ}
    (inb : ∀ a, off a + S1x128x512.size a ≤ S1x4096x512.size a) (w : (Rect.unit (s := S1x4096x512) off S1x128x512.size inb).shape.Idx → Val e)
    (L : List (View.Piece Val S1x4096x512 e)) (c c' : Fin 32) (h : off = ![0, 128 * c.val, 0]) (hne : c' ≠ c) :
    rows512 (v.read Val (v.writes Val f (⟨Rect.unit off S1x128x512.size inb, w⟩ :: L))) c' = rows512 (v.read Val (v.writes Val f L)) c' := by
  rw [View.read_writes_cons_put v f inb w L h]
  refine VecWindow.window_put_of_disjoint _ _ _ _ _ (inb512 c') _ ((1 : Fin 3) : Fin S1x4096x512.rank) ?_
  have hv : c'.val ≠ c.val := fun e => hne (Fin.ext e)
  show 128 * c'.val + 128 ≤ 128 * c.val ∨ 128 * c.val + 128 ≤ 128 * c'.val
  omega

/-- After stores of two chunks, the chunks stored before or now are as `G` says. -/
theorem rows512_step2 (v : View sig κ sp S1x4096x512 e) (f : v.ty.Contents Val) {o0 o1 : Fin 3 → ℕ}
    (i0 : ∀ a, o0 a + S1x128x512.size a ≤ S1x4096x512.size a) (i1 : ∀ a, o1 a + S1x128x512.size a ≤ S1x4096x512.size a)
    (w0 : (Rect.unit (s := S1x4096x512) o0 S1x128x512.size i0).shape.Idx → Val e) (w1 : (Rect.unit (s := S1x4096x512) o1 S1x128x512.size i1).shape.Idx → Val e)
    (c0 c1 : Fin 32) (h0 : o0 = ![0, 128 * c0.val, 0]) (h1 : o1 = ![0, 128 * c1.val, 0])
    (G : Fin 32 → S1x128x512.Idx → Val e) (e0 : w0 = G c0) (e1 : w1 = G c1) (P P' : Fin 32 → Prop)
    (hold : ∀ c, P c → rows512 (v.read Val f) c = G c) (hP : ∀ c, P' c → c = c1 ∨ c = c0 ∨ P c) :
    ∀ c, P' c → rows512 (v.read Val (v.writes Val f [⟨Rect.unit o1 S1x128x512.size i1, w1⟩, ⟨Rect.unit o0 S1x128x512.size i0, w0⟩])) c = G c := by
  intro c hc
  by_cases k1 : c = c1
  · rw [k1, rows512_hit v f i1 w1 _ c1 h1, e1]
  rw [rows512_miss v f i1 w1 _ c1 c h1 k1]
  by_cases k0 : c = c0
  · rw [k0, rows512_hit v f i0 w0 _ c0 h0, e0]
  rw [rows512_miss v f i0 w0 _ c0 c h0 k0, View.writes_nil]
  rcases hP c hc with h | h | h
  · exact absurd h k1
  · exact absurd h k0
  · exact hold c h

/-- A load of chunk `c` through a view. -/
theorem read_slab (v : View sig κ sp S32x128x128 e) (f : v.ty.Contents Val) {off : Fin 3 → ℕ}
    (inb : ∀ a, off a + S1x128x128.size a ≤ S32x128x128.size a) (c : Fin 32) (h : off = ![c.val, 0, 0]) :
    v.readAt Val (Rect.unit (s := S32x128x128) off S1x128x128.size inb).toLoadRect f = slab (v.read Val f) c :=
  View.readAt_unit v f inb h (inbSlab c)

/-- After a store of chunk `c`, chunk `c` is what was stored. -/
theorem slab_hit (v : View sig κ sp S32x128x128 e) (f : v.ty.Contents Val) {off : Fin 3 → ℕ}
    (inb : ∀ a, off a + S1x128x128.size a ≤ S32x128x128.size a) (w : (Rect.unit (s := S32x128x128) off S1x128x128.size inb).shape.Idx → Val e)
    (L : List (View.Piece Val S32x128x128 e)) (c : Fin 32) (h : off = ![c.val, 0, 0]) :
    slab (v.read Val (v.writes Val f (⟨Rect.unit off S1x128x128.size inb, w⟩ :: L))) c = w := by
  rw [View.read_writes_cons_put v f inb w L h]
  exact VecWindow.window_put_same _ _ _ (inbSlab c) _

/-- After a store of chunk `c`, another chunk is what it was. -/
theorem slab_miss (v : View sig κ sp S32x128x128 e) (f : v.ty.Contents Val) {off : Fin 3 → ℕ}
    (inb : ∀ a, off a + S1x128x128.size a ≤ S32x128x128.size a) (w : (Rect.unit (s := S32x128x128) off S1x128x128.size inb).shape.Idx → Val e)
    (L : List (View.Piece Val S32x128x128 e)) (c c' : Fin 32) (h : off = ![c.val, 0, 0]) (hne : c' ≠ c) :
    slab (v.read Val (v.writes Val f (⟨Rect.unit off S1x128x128.size inb, w⟩ :: L))) c' = slab (v.read Val (v.writes Val f L)) c' := by
  rw [View.read_writes_cons_put v f inb w L h]
  refine VecWindow.window_put_of_disjoint _ _ _ _ _ (inbSlab c') _ ((0 : Fin 3) : Fin S32x128x128.rank) ?_
  have hv : c'.val ≠ c.val := fun e => hne (Fin.ext e)
  show c'.val + 1 ≤ c.val ∨ c.val + 1 ≤ c'.val
  omega

/-- After stores of two chunks, the chunks stored before or now are as `G` says. -/
theorem slab_step2 (v : View sig κ sp S32x128x128 e) (f : v.ty.Contents Val) {o0 o1 : Fin 3 → ℕ}
    (i0 : ∀ a, o0 a + S1x128x128.size a ≤ S32x128x128.size a) (i1 : ∀ a, o1 a + S1x128x128.size a ≤ S32x128x128.size a)
    (w0 : (Rect.unit (s := S32x128x128) o0 S1x128x128.size i0).shape.Idx → Val e) (w1 : (Rect.unit (s := S32x128x128) o1 S1x128x128.size i1).shape.Idx → Val e)
    (c0 c1 : Fin 32) (h0 : o0 = ![c0.val, 0, 0]) (h1 : o1 = ![c1.val, 0, 0])
    (G : Fin 32 → S1x128x128.Idx → Val e) (e0 : w0 = G c0) (e1 : w1 = G c1) (P P' : Fin 32 → Prop)
    (hold : ∀ c, P c → slab (v.read Val f) c = G c) (hP : ∀ c, P' c → c = c1 ∨ c = c0 ∨ P c) :
    ∀ c, P' c → slab (v.read Val (v.writes Val f [⟨Rect.unit o1 S1x128x128.size i1, w1⟩, ⟨Rect.unit o0 S1x128x128.size i0, w0⟩])) c = G c := by
  intro c hc
  by_cases k1 : c = c1
  · rw [k1, slab_hit v f i1 w1 _ c1 h1, e1]
  rw [slab_miss v f i1 w1 _ c1 c h1 k1]
  by_cases k0 : c = c0
  · rw [k0, slab_hit v f i0 w0 _ c0 h0, e0]
  rw [slab_miss v f i0 w0 _ c0 c h0 k0, View.writes_nil]
  rcases hP c hc with h | h | h
  · exact absurd h k1
  · exact absurd h k0
  · exact hold c h

/-- A load of the whole of a state through a view. -/
theorem read_all512x256 (v : View sig κ sp S512x256 e) (f : v.ty.Contents Val) (inb : ∀ a, (![0, 0] : Fin 2 → ℕ) a + (![512, 256] : Fin 2 → ℕ) a ≤ S512x256.size a) :
    v.readAt Val (Rect.unit (s := S512x256) ![0, 0] ![512, 256] inb).toLoadRect f = v.read Val f :=
  View.readAt_full v f inb

/-- After a store of the whole of a state, a load of it gives what was stored. -/
theorem cov_all512x256 [∀ e, Nonempty (Val e)] (v : View sig κ sp S512x256 e) (inb : ∀ a, (![0, 0] : Fin 2 → ℕ) a + (![512, 256] : Fin 2 → ℕ) a ≤ S512x256.size a)
    (inb' : ∀ a, (![0, 0] : Fin 2 → ℕ) a + (![512, 256] : Fin 2 → ℕ) a ≤ S512x256.size a)
    (w : (Rect.unit (s := S512x256) ![0, 0] ![512, 256] inb').shape.Idx → Val e) (L : List (View.Piece Val S512x256 e)) :
    v.readCov (⟨Rect.unit (s := S512x256) ![0, 0] ![512, 256] inb', w⟩ :: L) (Rect.unit (s := S512x256) ![0, 0] ![512, 256] inb).toLoadRect = w :=
  View.readCov_full v _ _ w L

/-- A load of the whole of a state through a view. -/
theorem read_all256x512 (v : View sig κ sp S256x512 e) (f : v.ty.Contents Val) (inb : ∀ a, (![0, 0] : Fin 2 → ℕ) a + (![256, 512] : Fin 2 → ℕ) a ≤ S256x512.size a) :
    v.readAt Val (Rect.unit (s := S256x512) ![0, 0] ![256, 512] inb).toLoadRect f = v.read Val f :=
  View.readAt_full v f inb

/-- After a store of the whole of a state, a load of it gives what was stored. -/
theorem cov_all256x512 [∀ e, Nonempty (Val e)] (v : View sig κ sp S256x512 e) (inb : ∀ a, (![0, 0] : Fin 2 → ℕ) a + (![256, 512] : Fin 2 → ℕ) a ≤ S256x512.size a)
    (inb' : ∀ a, (![0, 0] : Fin 2 → ℕ) a + (![256, 512] : Fin 2 → ℕ) a ≤ S256x512.size a)
    (w : (Rect.unit (s := S256x512) ![0, 0] ![256, 512] inb').shape.Idx → Val e) (L : List (View.Piece Val S256x512 e)) :
    v.readCov (⟨Rect.unit (s := S256x512) ![0, 0] ![256, 512] inb', w⟩ :: L) (Rect.unit (s := S256x512) ![0, 0] ![256, 512] inb).toLoadRect = w :=
  View.readCov_full v _ _ w L

/-- A load of chunk `c`'s scales of do through a view. -/
theorem read_tok (v : View sig κ sp S1x32x128 e) (f : v.ty.Contents Val) {off : Fin 3 → ℕ}
    (inb : ∀ a, off a + S1x1x128.size a ≤ S1x32x128.size a) (c : Fin 32) (h : off = ![0, c.val, 0]) :
    v.readAt Val (Rect.unit (s := S1x32x128) off S1x1x128.size inb).toLoadRect f = tok (v.read Val f) c :=
  View.readAt_unit v f inb h (inbTok c)

/-- A load of one scale through a view. -/
theorem read_cell (v : View sig κ sp S48x32 e) (f : v.ty.Contents Val) {off : Fin 2 → ℕ}
    (inb : ∀ a, off a + S1x1.size a ≤ S48x32.size a) (g : Fin 48) (c : Fin 32) (h : off = ![g.val, c.val]) (hp) :
    v.readAt Val (Rect.unit (s := S48x32) off S1x1.size inb).toLoadRect f (Shape.Idx.first hp) = cell (v.read Val f) g c :=
  congrFun (View.readAt_unit v f inb h (inbCell g c)) _

/-- After stores of four chunks' blocks, the blocks stored before or now are as `G` says. -/
theorem slab_step4 (v : View sig κ sp S32x128x128 e) (f : v.ty.Contents Val) {o0 o1 o2 o3 : Fin 3 → ℕ}
    (i0 : ∀ a, o0 a + S1x128x128.size a ≤ S32x128x128.size a) (i1 : ∀ a, o1 a + S1x128x128.size a ≤ S32x128x128.size a)
    (i2 : ∀ a, o2 a + S1x128x128.size a ≤ S32x128x128.size a) (i3 : ∀ a, o3 a + S1x128x128.size a ≤ S32x128x128.size a)
    (w0 : (Rect.unit (s := S32x128x128) o0 S1x128x128.size i0).shape.Idx → Val e) (w1 : (Rect.unit (s := S32x128x128) o1 S1x128x128.size i1).shape.Idx → Val e)
    (w2 : (Rect.unit (s := S32x128x128) o2 S1x128x128.size i2).shape.Idx → Val e) (w3 : (Rect.unit (s := S32x128x128) o3 S1x128x128.size i3).shape.Idx → Val e)
    (c0 c1 c2 c3 : Fin 32) (h0 : o0 = ![c0.val, 0, 0]) (h1 : o1 = ![c1.val, 0, 0]) (h2 : o2 = ![c2.val, 0, 0]) (h3 : o3 = ![c3.val, 0, 0])
    (G : Fin 32 → S1x128x128.Idx → Val e) (e0 : w0 = G c0) (e1 : w1 = G c1) (e2 : w2 = G c2) (e3 : w3 = G c3) (P P' : Fin 32 → Prop)
    (hold : ∀ c, P c → slab (v.read Val f) c = G c) (hP : ∀ c, P' c → c = c3 ∨ c = c2 ∨ c = c1 ∨ c = c0 ∨ P c) :
    ∀ c, P' c → slab (v.read Val (v.writes Val f [⟨Rect.unit o3 S1x128x128.size i3, w3⟩, ⟨Rect.unit o2 S1x128x128.size i2, w2⟩,
      ⟨Rect.unit o1 S1x128x128.size i1, w1⟩, ⟨Rect.unit o0 S1x128x128.size i0, w0⟩])) c = G c := by
  intro c hc
  by_cases k3 : c = c3
  · rw [k3, slab_hit v f i3 w3 _ c3 h3, e3]
  rw [slab_miss v f i3 w3 _ c3 c h3 k3]
  by_cases k2 : c = c2
  · rw [k2, slab_hit v f i2 w2 _ c2 h2, e2]
  rw [slab_miss v f i2 w2 _ c2 c h2 k2]
  exact slab_step2 v f i0 i1 w0 w1 c0 c1 h0 h1 G e0 e1 P (fun c => P' c ∧ c ≠ c3 ∧ c ≠ c2) hold
    (fun c hc => by rcases hP c hc.1 with h | h | h
                    · exact absurd h hc.2.1
                    · exact absurd h hc.2.2
                    · exact h) c ⟨hc, k3, k2⟩

end Reads

end Cert.KernelIdeal.Model

end
-- ==== Proof.Ideal.Loop1.lean ====
/-
  The first loop of the kernel's body: trip `k` writes the score blocks of chunks 4 k .. 4 k + 3.
-/
module

public import proofs.«01_k».proof.Proof.Ideal.Model

@[expose] public section

set_option maxRecDepth 8192

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen Model

variable {F : FTy → Type} [FloatOps F]

local notation "𝕄G" => MT nD τ sig Unit (Elt F) ℕ (UR sig nD τ) ℕ

/-- Before trip `k` of the first loop: the blocks read are as they were, and the score blocks of the first 4 k chunks are written. -/
def Inv1 (c : Dev nD) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f : BufTy.Contents (Elt F) arg17.view.ty, ⌜∀ j : Fin 32, j.val < 4 * k → slab (arg17.view.read (Elt F) f) j = Ac I j⌝ ∗ (arg17.view.loc (c : Thread nD τ) ↦[arg17.view.set]{fullShare} f)) ∗ (∃ f : BufTy.Contents (Elt F) arg18.view.ty, ⌜∀ j : Fin 32, j.val < 4 * k → slab (arg18.view.read (Elt F) f) j = ATc I j⌝ ∗ (arg18.view.loc (c : Thread nD τ) ↦[arg18.view.set]{fullShare} f)) ∗ (∃ f : BufTy.Contents (Elt F) arg19.view.ty, ⌜∀ j : Fin 32, j.val < 4 * k → slab (arg19.view.read (Elt F) f) j = PTc I j⌝ ∗ (arg19.view.loc (c : Thread nD τ) ↦[arg19.view.set]{fullShare} f)))

set_option maxHeartbeats 4000000 in
/-- One trip of the first loop takes `Inv1 k` to `Inv1 (k + 1)`. -/
theorem trip1 (𝒱 : Variants) (c : Dev nD) (bd : Option 𝒱.V) (E : Set ℕ) (i : grid0.Coords) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (hg : I.g.val = (i 0).val) (h_arg1 : arg1.view.read (Elt F) X_arg1 = I.qs) (h_arg2 : arg2.view.read (Elt F) X_arg2 = I.ks) (h_arg3 : arg3.view.read (Elt F) X_arg3 = I.vs) (h_arg4 : arg4.view.read (Elt F) X_arg4 = I.q) (h_arg5 : arg5.view.read (Elt F) X_arg5 = I.k) (h_arg6 : arg6.view.read (Elt F) X_arg6 = I.v) (h_arg7 : arg7.view.read (Elt F) X_arg7 = I.d) (h_arg8 : arg8.view.read (Elt F) X_arg8 = I.s)
    (k : Fin k0_t1_loop.trips) (acc : Unit) :
    Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 k.val acc ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k acc) (Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 (k.val + 1)) := by
  have hk : k.val < 8 := Nat.lt_of_lt_of_le k.isLt k0_t1_abs.2.1
  have hc0 : (ch (4 * k.val + 0)).val = 4 * k.val + 0 := ch_val (by omega)
  have cl0 : k0_off1 i k 0#32 = ![I.g.val, (ch (4 * k.val + 0)).val] := by
    rw [hc0, hg]; exact k0_off1_eq i k 0
  have tk0 : k0_off2 k 0#32 = ![0, (ch (4 * k.val + 0)).val, 0] := by
    rw [hc0]; exact k0_off2_eq k 0
  have vo0 : k0_off3 k 0#32 = ![0, 128 * (ch (4 * k.val + 0)).val, 0] := by
    rw [hc0, show 128 * (4 * k.val + 0) = 512 * k.val + 128 * 0 from by omega]; exact k0_off3_eq k 0
  have ko0 : k0_off4 k 0#32 = ![0, 128 * (ch (4 * k.val + 0)).val, 0] := by
    rw [hc0, show 128 * (4 * k.val + 0) = 512 * k.val + 128 * 0 from by omega]; exact k0_off4_eq k 0
  have sl0 : k0_off5 k 0#32 = ![(ch (4 * k.val + 0)).val, 0, 0] := by
    rw [hc0]; exact k0_off5_eq k 0
  have hc1 : (ch (4 * k.val + 1)).val = 4 * k.val + 1 := ch_val (by omega)
  have cl1 : k0_off1 i k 1#32 = ![I.g.val, (ch (4 * k.val + 1)).val] := by
    rw [hc1, hg]; exact k0_off1_eq i k 1
  have tk1 : k0_off2 k 1#32 = ![0, (ch (4 * k.val + 1)).val, 0] := by
    rw [hc1]; exact k0_off2_eq k 1
  have vo1 : k0_off3 k 1#32 = ![0, 128 * (ch (4 * k.val + 1)).val, 0] := by
    rw [hc1, show 128 * (4 * k.val + 1) = 512 * k.val + 128 * 1 from by omega]; exact k0_off3_eq k 1
  have ko1 : k0_off4 k 1#32 = ![0, 128 * (ch (4 * k.val + 1)).val, 0] := by
    rw [hc1, show 128 * (4 * k.val + 1) = 512 * k.val + 128 * 1 from by omega]; exact k0_off4_eq k 1
  have sl1 : k0_off5 k 1#32 = ![(ch (4 * k.val + 1)).val, 0, 0] := by
    rw [hc1]; exact k0_off5_eq k 1
  have hc2 : (ch (4 * k.val + 2)).val = 4 * k.val + 2 := ch_val (by omega)
  have cl2 : k0_off1 i k 2#32 = ![I.g.val, (ch (4 * k.val + 2)).val] := by
    rw [hc2, hg]; exact k0_off1_eq i k 2
  have tk2 : k0_off2 k 2#32 = ![0, (ch (4 * k.val + 2)).val, 0] := by
    rw [hc2]; exact k0_off2_eq k 2
  have vo2 : k0_off3 k 2#32 = ![0, 128 * (ch (4 * k.val + 2)).val, 0] := by
    rw [hc2, show 128 * (4 * k.val + 2) = 512 * k.val + 128 * 2 from by omega]; exact k0_off3_eq k 2
  have ko2 : k0_off4 k 2#32 = ![0, 128 * (ch (4 * k.val + 2)).val, 0] := by
    rw [hc2, show 128 * (4 * k.val + 2) = 512 * k.val + 128 * 2 from by omega]; exact k0_off4_eq k 2
  have sl2 : k0_off5 k 2#32 = ![(ch (4 * k.val + 2)).val, 0, 0] := by
    rw [hc2]; exact k0_off5_eq k 2
  have hc3 : (ch (4 * k.val + 3)).val = 4 * k.val + 3 := ch_val (by omega)
  have cl3 : k0_off1 i k 3#32 = ![I.g.val, (ch (4 * k.val + 3)).val] := by
    rw [hc3, hg]; exact k0_off1_eq i k 3
  have tk3 : k0_off2 k 3#32 = ![0, (ch (4 * k.val + 3)).val, 0] := by
    rw [hc3]; exact k0_off2_eq k 3
  have vo3 : k0_off3 k 3#32 = ![0, 128 * (ch (4 * k.val + 3)).val, 0] := by
    rw [hc3, show 128 * (4 * k.val + 3) = 512 * k.val + 128 * 3 from by omega]; exact k0_off3_eq k 3
  have ko3 : k0_off4 k 3#32 = ![0, 128 * (ch (4 * k.val + 3)).val, 0] := by
    rw [hc3, show 128 * (4 * k.val + 3) = 512 * k.val + 128 * 3 from by omega]; exact k0_off4_eq k 3
  have sl3 : k0_off5 k 3#32 = ![(ch (4 * k.val + 3)).val, 0, 0] := by
    rw [hc3]; exact k0_off5_eq k 3
  have hin : ∀ j : Fin 32, j.val < 4 * (k.val + 1) → j = ch (4 * k.val + 3) ∨ j = ch (4 * k.val + 2) ∨ j = ch (4 * k.val + 1) ∨ j = ch (4 * k.val + 0) ∨ j.val < 4 * k.val := by
    intro j hj; simp only [Fin.ext_iff, hc0, hc1, hc2, hc3]; omega
  unfold Inv1 k0_t1_body
  iintro ⟨HR_arg1, HR_arg2, HR_arg3, HR_arg4, HR_arg5, HR_arg6, HR_arg7, HR_arg8, ⟨%f_arg17, %hf_arg17, HW_arg17⟩, ⟨%f_arg18, %hf_arg18, HW_arg18⟩, ⟨%f_arg19, %hf_arg19, HW_arg19⟩⟩
  sl_exec
  sl_step
  isplitl [HR_arg1]; · iexact HR_arg1
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HW_arg17]
  · iexists _; isplitr; swap; · iexact HW_arg17
    ipureintro
    refine slab_step4 arg17.view f_arg17 _ _ _ _ _ _ _ _ (ch (4 * k.val + 0)) (ch (4 * k.val + 1)) (ch (4 * k.val + 2)) (ch (4 * k.val + 3)) sl0 sl1 sl2 sl3 (Ac I) ?_ ?_ ?_ ?_ (fun j => j.val < 4 * k.val) _ hf_arg17 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl
  isplitl [HW_arg18]
  · iexists _; isplitr; swap; · iexact HW_arg18
    ipureintro
    refine slab_step4 arg18.view f_arg18 _ _ _ _ _ _ _ _ (ch (4 * k.val + 0)) (ch (4 * k.val + 1)) (ch (4 * k.val + 2)) (ch (4 * k.val + 3)) sl0 sl1 sl2 sl3 (ATc I) ?_ ?_ ?_ ?_ (fun j => j.val < 4 * k.val) _ hf_arg18 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl
  · iexists _; isplitr; swap; · iexact HW_arg19
    ipureintro
    refine slab_step4 arg19.view f_arg19 _ _ _ _ _ _ _ _ (ch (4 * k.val + 0)) (ch (4 * k.val + 1)) (ch (4 * k.val + 2)) (ch (4 * k.val + 3)) sl0 sl1 sl2 sl3 (PTc I) ?_ ?_ ?_ ?_ (fun j => j.val < 4 * k.val) _ hf_arg19 hin
    · sl_unfold_run_names
      simp only [read_cell _ _ _ I.g _ cl0, read_tok _ _ _ _ tk0, read_rows512 _ _ _ _ vo0, read_rows256 _ _ _ _ ko0, h_arg1, h_arg2, h_arg3, h_arg4, h_arg5, h_arg6, h_arg7, h_arg8]
      rfl
    · sl_unfold_run_names
      simp only [read_cell _ _ _ I.g _ cl1, read_tok _ _ _ _ tk1, read_rows512 _ _ _ _ vo1, read_rows256 _ _ _ _ ko1, h_arg1, h_arg2, h_arg3, h_arg4, h_arg5, h_arg6, h_arg7, h_arg8]
      rfl
    · sl_unfold_run_names
      simp only [read_cell _ _ _ I.g _ cl2, read_tok _ _ _ _ tk2, read_rows512 _ _ _ _ vo2, read_rows256 _ _ _ _ ko2, h_arg1, h_arg2, h_arg3, h_arg4, h_arg5, h_arg6, h_arg7, h_arg8]
      rfl
    · sl_unfold_run_names
      simp only [read_cell _ _ _ I.g _ cl3, read_tok _ _ _ _ tk3, read_rows512 _ _ _ _ vo3, read_rows256 _ _ _ _ ko3, h_arg1, h_arg2, h_arg3, h_arg4, h_arg5, h_arg6, h_arg7, h_arg8]
      rfl

end Cert.KernelIdeal

end
-- ==== Proof.Ideal.Loop2.lean ====
/-
  The second loop of the kernel's body: trip `k` writes dq for chunks 2 k, 2 k + 1 and dk, dv for chunks 31 - 2 k, 30 - 2 k,
  and takes the two states two chunks on.
-/
module

public import proofs.«01_k».proof.Proof.Ideal.Model

@[expose] public section

set_option maxRecDepth 8192

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen Model

variable {F : FTy → Type} [FloatOps F]

local notation "𝕄G" => MT nD τ sig Unit (Elt F) ℕ (UR sig nD τ) ℕ

/-- Before trip `k` of the second loop: the blocks read are as they were, dq is written for the first 2 k chunks, dk and dv for
the last 2 k, and the states are those after 2 k chunks. -/
def Inv2 (c : Dev nD) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) (X_arg18 : BufTy.Contents (Elt F) arg18.view.ty) (X_arg19 : BufTy.Contents (Elt F) arg19.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (∃ f : BufTy.Contents (Elt F) arg9.view.ty, ⌜∀ j : Fin 32, j.val < 2 * k → rows256 (arg9.view.read (Elt F) f) j = DQc I j⌝ ∗ (arg9.view.loc (c : Thread nD τ) ↦[arg9.view.set]{fullShare} f)) ∗ (∃ f : BufTy.Contents (Elt F) arg10.view.ty, ⌜∀ j : Fin 32, 32 ≤ j.val + 2 * k → rows256 (arg10.view.read (Elt F) f) j = DKc I j⌝ ∗ (arg10.view.loc (c : Thread nD τ) ↦[arg10.view.set]{fullShare} f)) ∗ (∃ f : BufTy.Contents (Elt F) arg11.view.ty, ⌜∀ j : Fin 32, 32 ≤ j.val + 2 * k → rows512 (arg11.view.read (Elt F) f) j = DVc I j⌝ ∗ (arg11.view.loc (c : Thread nD τ) ↦[arg11.view.set]{fullShare} f)) ∗ (∃ f : BufTy.Contents (Elt F) arg12.view.ty, ⌜arg12.view.read (Elt F) f = ST I (2 * k)⌝ ∗ (arg12.view.loc (c : Thread nD τ) ↦[arg12.view.set]{fullShare} f)) ∗ (∃ f : BufTy.Contents (Elt F) arg13.view.ty, ⌜arg13.view.read (Elt F) f = STB I (2 * k)⌝ ∗ (arg13.view.loc (c : Thread nD τ) ↦[arg13.view.set]{fullShare} f)) ∗ (∃ f : BufTy.Contents (Elt F) arg14.view.ty, ⌜arg14.view.read (Elt F) f = DS I (2 * k)⌝ ∗ (arg14.view.loc (c : Thread nD τ) ↦[arg14.view.set]{fullShare} f)) ∗ (∃ f : BufTy.Contents (Elt F) arg15.view.ty, ⌜arg15.view.read (Elt F) f = DSB I (2 * k)⌝ ∗ (arg15.view.loc (c : Thread nD τ) ↦[arg15.view.set]{fullShare} f)) ∗ (∃ f : BufTy.Contents (Elt F) arg16.view.ty, ⌜arg16.view.read (Elt F) f = DST I (2 * k)⌝ ∗ (arg16.view.loc (c : Thread nD τ) ↦[arg16.view.set]{fullShare} f)))

set_option maxHeartbeats 4000000 in
/-- One trip of the second loop takes `Inv2 k` to `Inv2 (k + 1)`. -/
theorem trip2 (𝒱 : Variants) (c : Dev nD) (bd : Option 𝒱.V) (E : Set ℕ) (i : grid0.Coords) (I : In F) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg17 : BufTy.Contents (Elt F) arg17.view.ty) (X_arg18 : BufTy.Contents (Elt F) arg18.view.ty) (X_arg19 : BufTy.Contents (Elt F) arg19.view.ty)
    (hg : I.g.val = (i 0).val) (h_arg1 : arg1.view.read (Elt F) X_arg1 = I.qs) (h_arg2 : arg2.view.read (Elt F) X_arg2 = I.ks) (h_arg3 : arg3.view.read (Elt F) X_arg3 = I.vs) (h_arg4 : arg4.view.read (Elt F) X_arg4 = I.q) (h_arg5 : arg5.view.read (Elt F) X_arg5 = I.k) (h_arg6 : arg6.view.read (Elt F) X_arg6 = I.v) (h_arg7 : arg7.view.read (Elt F) X_arg7 = I.d) (h_arg8 : arg8.view.read (Elt F) X_arg8 = I.s)
    (h_arg17 : ∀ j : Fin 32, slab (arg17.view.read (Elt F) X_arg17) j = Ac I j) (h_arg18 : ∀ j : Fin 32, slab (arg18.view.read (Elt F) X_arg18) j = ATc I j) (h_arg19 : ∀ j : Fin 32, slab (arg19.view.read (Elt F) X_arg19) j = PTc I j)
    (k : Fin k0_t2_loop.trips) (acc : Unit) :
    Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 X_arg17 X_arg18 X_arg19 k.val acc ⊢ wp frame (wpE (defs₀ (F := F)) 𝒱 (c : Thread nD τ) bd) E
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k acc) (Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg1 X_arg2 X_arg3 X_arg4 X_arg5 X_arg6 X_arg7 X_arg8 X_arg17 X_arg18 X_arg19 (k.val + 1)) := by
  have hk : k.val < 16 := Nat.lt_of_lt_of_le k.isLt k0_t2_abs.2.1
  have hc0 : (ch (2 * k.val)).val = 2 * k.val + 0 := ch_val (by omega)
  have hb0 : (ch (31 - (2 * k.val))).val = 31 - (2 * k.val + 0) := ch_val (by omega)
  have hd0 : 31 - (ch (31 - (2 * k.val))).val = 2 * k.val + 0 := by rw [hb0]; omega
  have fcl0 : k0_off6 i k 0#32 = ![I.g.val, (ch (2 * k.val)).val] := by
    rw [hc0, hg]; exact k0_off6_eq i k 0
  have fro0 : k0_off7 k 0#32 = ![0, 128 * (ch (2 * k.val)).val, 0] := by
    rw [hc0, show 128 * (2 * k.val + 0) = 256 * k.val + 128 * 0 from by omega]; exact k0_off7_eq k 0
  have frw0 : k0_off8 k 0#32 = ![0, 128 * (ch (2 * k.val)).val, 0] := by
    rw [hc0, show 128 * (2 * k.val + 0) = 256 * k.val + 128 * 0 from by omega]; exact k0_off8_eq k 0
  have fsl0 : k0_off9 k 0#32 = ![(ch (2 * k.val)).val, 0, 0] := by
    rw [hc0]; exact k0_off9_eq k 0
  have ftk0 : k0_off10 k 0#32 = ![0, (ch (2 * k.val)).val, 0] := by
    rw [hc0]; exact k0_off10_eq k 0
  have bcl0 : k0_off11 i k 0#32 = ![I.g.val, (ch (31 - (2 * k.val))).val] := by
    rw [hb0, hg]; exact k0_off11_eq i k 0
  have bro0 : k0_off12 k 0#32 = ![0, 128 * (ch (31 - (2 * k.val))).val, 0] := by
    rw [hb0, show 128 * (31 - (2 * k.val + 0)) = 3968 - (256 * k.val + 128 * 0) from by omega]; exact k0_off12_eq k 0
  have brw0 : k0_off13 k 0#32 = ![0, 128 * (ch (31 - (2 * k.val))).val, 0] := by
    rw [hb0, show 128 * (31 - (2 * k.val + 0)) = 3968 - (256 * k.val + 128 * 0) from by omega]; exact k0_off13_eq k 0
  have bsl0 : k0_off14 k 0#32 = ![(ch (31 - (2 * k.val))).val, 0, 0] := by
    rw [hb0]; exact k0_off14_eq k 0
  have btk0 : k0_off15 k 0#32 = ![0, (ch (31 - (2 * k.val))).val, 0] := by
    rw [hb0]; exact k0_off15_eq k 0
  have hc1 : (ch (2 * k.val + 1)).val = 2 * k.val + 1 := ch_val (by omega)
  have hb1 : (ch (31 - (2 * k.val + 1))).val = 31 - (2 * k.val + 1) := ch_val (by omega)
  have hd1 : 31 - (ch (31 - (2 * k.val + 1))).val = 2 * k.val + 1 := by rw [hb1]; omega
  have fcl1 : k0_off6 i k 1#32 = ![I.g.val, (ch (2 * k.val + 1)).val] := by
    rw [hc1, hg]; exact k0_off6_eq i k 1
  have fro1 : k0_off7 k 1#32 = ![0, 128 * (ch (2 * k.val + 1)).val, 0] := by
    rw [hc1, show 128 * (2 * k.val + 1) = 256 * k.val + 128 * 1 from by omega]; exact k0_off7_eq k 1
  have frw1 : k0_off8 k 1#32 = ![0, 128 * (ch (2 * k.val + 1)).val, 0] := by
    rw [hc1, show 128 * (2 * k.val + 1) = 256 * k.val + 128 * 1 from by omega]; exact k0_off8_eq k 1
  have fsl1 : k0_off9 k 1#32 = ![(ch (2 * k.val + 1)).val, 0, 0] := by
    rw [hc1]; exact k0_off9_eq k 1
  have ftk1 : k0_off10 k 1#32 = ![0, (ch (2 * k.val + 1)).val, 0] := by
    rw [hc1]; exact k0_off10_eq k 1
  have bcl1 : k0_off11 i k 1#32 = ![I.g.val, (ch (31 - (2 * k.val + 1))).val] := by
    rw [hb1, hg]; exact k0_off11_eq i k 1
  have bro1 : k0_off12 k 1#32 = ![0, 128 * (ch (31 - (2 * k.val + 1))).val, 0] := by
    rw [hb1, show 128 * (31 - (2 * k.val + 1)) = 3968 - (256 * k.val + 128 * 1) from by omega]; exact k0_off12_eq k 1
  have brw1 : k0_off13 k 1#32 = ![0, 128 * (ch (31 - (2 * k.val + 1))).val, 0] := by
    rw [hb1, show 128 * (31 - (2 * k.val + 1)) = 3968 - (256 * k.val + 128 * 1) from by omega]; exact k0_off13_eq k 1
  have bsl1 : k0_off14 k 1#32 = ![(ch (31 - (2 * k.val + 1))).val, 0, 0] := by
    rw [hb1]; exact k0_off14_eq k 1
  have btk1 : k0_off15 k 1#32 = ![0, (ch (31 - (2 * k.val + 1))).val, 0] := by
    rw [hb1]; exact k0_off15_eq k 1
  have hinF : ∀ j : Fin 32, j.val < 2 * (k.val + 1) → j = ch (2 * k.val + 1) ∨ j = ch (2 * k.val) ∨ j.val < 2 * k.val := by
    intro j hj; simp only [Fin.ext_iff, hc0, hc1]; omega
  have hinB : ∀ j : Fin 32, 32 ≤ j.val + 2 * (k.val + 1) → j = ch (31 - (2 * k.val + 1)) ∨ j = ch (31 - 2 * k.val) ∨ 32 ≤ j.val + 2 * k.val := by
    intro j hj; simp only [Fin.ext_iff, hb0, hb1]; omega
  have he : 2 * (k.val + 1) = 2 * k.val + 1 + 1 := by omega
  unfold Inv2 k0_t2_body
  iintro ⟨HR_arg1, HR_arg2, HR_arg3, HR_arg4, HR_arg5, HR_arg6, HR_arg7, HR_arg8, HR_arg17, HR_arg18, HR_arg19, ⟨%f_arg9, %hf_arg9, HW_arg9⟩, ⟨%f_arg10, %hf_arg10, HW_arg10⟩, ⟨%f_arg11, %hf_arg11, HW_arg11⟩, ⟨%f_arg12, %hf_arg12, HW_arg12⟩, ⟨%f_arg13, %hf_arg13, HW_arg13⟩, ⟨%f_arg14, %hf_arg14, HW_arg14⟩, ⟨%f_arg15, %hf_arg15, HW_arg15⟩, ⟨%f_arg16, %hf_arg16, HW_arg16⟩⟩
  sl_exec
  sl_step
  isplitl [HR_arg1]; · iexact HR_arg1
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HR_arg7]; · iexact HR_arg7
  isplitl [HR_arg8]; · iexact HR_arg8
  isplitl [HR_arg17]; · iexact HR_arg17
  isplitl [HR_arg18]; · iexact HR_arg18
  isplitl [HR_arg19]; · iexact HR_arg19
  isplitl [HW_arg9]
  · iexists _; isplitr; swap; · iexact HW_arg9
    ipureintro
    refine rows256_step2 arg9.view f_arg9 _ _ _ _ (ch (2 * k.val)) (ch (2 * k.val + 1)) fro0 fro1 (DQc I) ?_ ?_ (fun j => j.val < 2 * k.val) _ hf_arg9 hinF
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DQc, hc0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DQc, hc1]
      rfl
  isplitl [HW_arg10]
  · iexists _; isplitr; swap; · iexact HW_arg10
    ipureintro
    refine rows256_step2 arg10.view f_arg10 _ _ _ _ (ch (31 - 2 * k.val)) (ch (31 - (2 * k.val + 1))) bro0 bro1 (DKc I) ?_ ?_ (fun j => 32 ≤ j.val + 2 * k.val) _ hf_arg10 hinB
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DKc, hd0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DKc, hd1]
      rfl
  isplitl [HW_arg11]
  · iexists _; isplitr; swap; · iexact HW_arg11
    ipureintro
    refine rows512_step2 arg11.view f_arg11 _ _ _ _ (ch (31 - 2 * k.val)) (ch (31 - (2 * k.val + 1))) brw0 brw1 (DVc I) ?_ ?_ (fun j => 32 ≤ j.val + 2 * k.val) _ hf_arg11 hinB
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DVc, hd0]
      rfl
    · sl_unfold_run_names
      simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16, DVc, hd1]
      rfl
  isplitl [HW_arg12]
  · iexists _; isplitr; swap; · iexact HW_arg12
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg13]
  · iexists _; isplitr; swap; · iexact HW_arg13
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg14]
  · iexists _; isplitr; swap; · iexact HW_arg14
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  isplitl [HW_arg15]
  · iexists _; isplitr; swap; · iexact HW_arg15
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl
  · iexists _; isplitr; swap; · iexact HW_arg16
    ipureintro
    sl_unfold_run_names
    rw [View.read_writes_full, he]
    simp only [read_cell _ _ _ I.g _ fcl0, read_cell _ _ _ I.g _ bcl0, read_tok _ _ _ _ ftk0, read_tok _ _ _ _ btk0, read_rows256 _ _ _ _ fro0, read_rows256 _ _ _ _ bro0, read_rows512 _ _ _ _ frw0, read_rows512 _ _ _ _ brw0, read_slab _ _ _ _ fsl0, read_slab _ _ _ _ bsl0, read_cell _ _ _ I.g _ fcl1, read_cell _ _ _ I.g _ bcl1, read_tok _ _ _ _ ftk1, read_tok _ _ _ _ btk1, read_rows256 _ _ _ _ fro1, read_rows256 _ _ _ _ bro1, read_rows512 _ _ _ _ frw1, read_rows512 _ _ _ _ brw1, read_slab _ _ _ _ fsl1, read_slab _ _ _ _ bsl1, read_all512x256, read_all256x512, cov_all512x256, cov_all256x512, View.readAt_full, View.readCov_full, h_arg1, h_arg2, h_arg3, h_arg4, h_arg5, h_arg6, h_arg7, h_arg8, h_arg17, h_arg18, h_arg19, hf_arg12, hf_arg13, hf_arg14, hf_arg15, hf_arg16]
    rfl

end Cert.KernelIdeal

end
-- ==== Proof.Ideal.Frame.lean ====
/-
  The kernel's run: the body's triple at one grid point from the two loops, the pipeline's proof data, the launch, the frame.
-/
module

public import proofs.«01_k».proof.Proof.Ideal.Loop1
public import proofs.«01_k».proof.Proof.Ideal.Loop2
public import proofs.«01_k».proof.Proof.Gen.KernelIdeal.Frame
public import Idealize.ShloMosaic.Lib.Claim

@[expose] public section

set_option maxRecDepth 8192

noncomputable section

namespace Cert.KernelIdeal.Run

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips1 : Scf.trips k0_t1_loop.lb k0_t1_loop.ub k0_t1_loop.st = 8 := by decide
theorem trips2 : Scf.trips k0_t2_loop.lb k0_t2_loop.ub k0_t2_loop.st = 16 := by decide

set_option maxHeartbeats 4000000 in
/-- The body at one grid point, the blocks read at `I`: it leaves them as they are, and dq, dk, dv at the model's blocks. -/
theorem sound_kernel (c : Dev nD) (E : Set ℕ) (i : grid0.Coords) (I : In F) (hg : I.g.val = (i 0).val) (arg1 : Memref sig .tc .smem S48x32 .f32) (harg1 : arg1.IsWhole) (arg2 : Memref sig .tc .smem S48x32 .f32) (harg2 : arg2.IsWhole) (arg3 : Memref sig .tc .smem S48x32 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e5m2) (harg7 : arg7.IsWhole) (arg8 : Memref sig .tc .vmem S1x32x128 .f32) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x512 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S512x256 .bf16) (harg16 : arg16.IsWhole) (arg17 : Memref sig .tc .vmem S32x128x128 .bf16) (harg17 : arg17.IsWhole) (arg18 : Memref sig .tc .vmem S32x128x128 .bf16) (harg18 : arg18.IsWhole) (arg19 : Memref sig .tc .vmem S32x128x128 .bf16) (harg19 : arg19.IsWhole) (K : PUnit → sProp 𝕄) :
    iprop(owns (c : Thread nD τ) arg1 fullShare I.qs ∗ owns (c : Thread nD τ) arg2 fullShare I.ks ∗ owns (c : Thread nD τ) arg3 fullShare I.vs ∗ owns (c : Thread nD τ) arg4 fullShare I.q ∗ owns (c : Thread nD τ) arg5 fullShare I.k ∗ owns (c : Thread nD τ) arg6 fullShare I.v ∗ owns (c : Thread nD τ) arg7 fullShare I.d ∗ owns (c : Thread nD τ) arg8 fullShare I.s ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare I.qs ∗ owns (c : Thread nD τ) arg2 fullShare I.ks ∗ owns (c : Thread nD τ) arg3 fullShare I.vs ∗ owns (c : Thread nD τ) arg4 fullShare I.q ∗ owns (c : Thread nD τ) arg5 fullShare I.k ∗ owns (c : Thread nD τ) arg6 fullShare I.v ∗ owns (c : Thread nD τ) arg7 fullShare I.d ∗ owns (c : Thread nD τ) arg8 fullShare I.s ∗ owns (c : Thread nD τ) arg9 fullShare (DQ I) ∗ owns (c : Thread nD τ) arg10 fullShare (DK I) ∗ owns (c : Thread nD τ) arg11 fullShare (DV I) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_linattn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_linattn_bwd_eq_skeleton]; unfold cc0_linattn_bwd_skel
  unfold owns
  iintro ⟨⟨%f_arg1, %hf_arg1, HR_arg1⟩, ⟨%f_arg2, %hf_arg2, HR_arg2⟩, ⟨%f_arg3, %hf_arg3, HR_arg3⟩, ⟨%f_arg4, %hf_arg4, HR_arg4⟩, ⟨%f_arg5, %hf_arg5, HR_arg5⟩, ⟨%f_arg6, %hf_arg6, HR_arg6⟩, ⟨%f_arg7, %hf_arg7, HR_arg7⟩, ⟨%f_arg8, %hf_arg8, HR_arg8⟩, ⟨%d_arg9, %f_arg9, -, HW_arg9⟩, ⟨%d_arg10, %f_arg10, -, HW_arg10⟩, ⟨%d_arg11, %f_arg11, -, HW_arg11⟩, ⟨%d_arg12, %f_arg12, -, HW_arg12⟩, ⟨%d_arg13, %f_arg13, -, HW_arg13⟩, ⟨%d_arg14, %f_arg14, -, HW_arg14⟩, ⟨%d_arg15, %f_arg15, -, HW_arg15⟩, ⟨%d_arg16, %f_arg16, -, HW_arg16⟩, ⟨%d_arg17, %f_arg17, -, HW_arg17⟩, ⟨%d_arg18, %f_arg18, -, HW_arg18⟩, ⟨%d_arg19, %f_arg19, -, HW_arg19⟩, Hk⟩
  sl_exec
  sl_for (Inv1 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f_arg1 f_arg2 f_arg3 f_arg4 f_arg5 f_arg6 f_arg7 f_arg8) $$ [HR_arg1 HR_arg2 HR_arg3 HR_arg4 HR_arg5 HR_arg6 HR_arg7 HR_arg8 HW_arg17 HW_arg18 HW_arg19]
  case region =>
    intro k acc
    exact trip1 Variants.none c none E i I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f_arg1 f_arg2 f_arg3 f_arg4 f_arg5 f_arg6 f_arg7 f_arg8 hg hf_arg1 hf_arg2 hf_arg3 hf_arg4 hf_arg5 hf_arg6 hf_arg7 hf_arg8 k acc
  · unfold Inv1

    isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg17]
    · iexists _; isplitr; swap; · iexact HW_arg17
      ipureintro; intro j hj; omega
    isplitl [HW_arg18]
    · iexists _; isplitr; swap; · iexact HW_arg18
      ipureintro; intro j hj; omega
    · iexists _; isplitr; swap; · iexact HW_arg19
      ipureintro; intro j hj; omega
  rw [trips1]
  unfold Inv1
  iintro %acc ⟨HR_arg1, HR_arg2, HR_arg3, HR_arg4, HR_arg5, HR_arg6, HR_arg7, HR_arg8, ⟨%g_arg17, %hg_arg17, HW_arg17⟩, ⟨%g_arg18, %hg_arg18, HW_arg18⟩, ⟨%g_arg19, %hg_arg19, HW_arg19⟩⟩
  sl_exec
  sl_for (Inv2 c I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f_arg1 f_arg2 f_arg3 f_arg4 f_arg5 f_arg6 f_arg7 f_arg8 g_arg17 g_arg18 g_arg19) $$ [HR_arg1 HR_arg2 HR_arg3 HR_arg4 HR_arg5 HR_arg6 HR_arg7 HR_arg8 HW_arg17 HW_arg18 HW_arg19 HW_arg9 HW_arg10 HW_arg11 HW_arg12 HW_arg13 HW_arg14 HW_arg15 HW_arg16]
  case region =>
    intro k acc
    exact trip2 Variants.none c none E i I arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ f_arg1 f_arg2 f_arg3 f_arg4 f_arg5 f_arg6 f_arg7 f_arg8 g_arg17 g_arg18 g_arg19 hg hf_arg1 hf_arg2 hf_arg3 hf_arg4 hf_arg5 hf_arg6 hf_arg7 hf_arg8 (fun j => hg_arg17 j (by have := j.isLt; omega)) (fun j => hg_arg18 j (by have := j.isLt; omega)) (fun j => hg_arg19 j (by have := j.isLt; omega)) k acc
  · unfold Inv2

    isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg17]; · iexact HW_arg17
    isplitl [HW_arg18]; · iexact HW_arg18
    isplitl [HW_arg19]; · iexact HW_arg19
    isplitl [HW_arg9]
    · iexists _; isplitr; swap; · iexact HW_arg9
      ipureintro; intro j hj; have := j.isLt; omega
    isplitl [HW_arg10]
    · iexists _; isplitr; swap; · iexact HW_arg10
      ipureintro; intro j hj; have := j.isLt; omega
    isplitl [HW_arg11]
    · iexists _; isplitr; swap; · iexact HW_arg11
      ipureintro; intro j hj; have := j.isLt; omega
    isplitl [HW_arg12]
    · iexists _; isplitr; swap; · iexact HW_arg12
      ipureintro; sl_unfold_run_names; exact View.read_writes_full _ _ _ _ _
    isplitl [HW_arg13]
    · iexists _; isplitr; swap; · iexact HW_arg13
      ipureintro; sl_unfold_run_names; exact View.read_writes_full _ _ _ _ _
    isplitl [HW_arg14]
    · iexists _; isplitr; swap; · iexact HW_arg14
      ipureintro; sl_unfold_run_names; exact View.read_writes_full _ _ _ _ _
    isplitl [HW_arg15]
    · iexists _; isplitr; swap; · iexact HW_arg15
      ipureintro; sl_unfold_run_names; exact View.read_writes_full _ _ _ _ _
    · iexists _; isplitr; swap; · iexact HW_arg16
      ipureintro; sl_unfold_run_names; exact View.read_writes_full _ _ _ _ _
  rw [trips2]
  unfold Inv2
  iintro %acc2 ⟨HR_arg1, HR_arg2, HR_arg3, HR_arg4, HR_arg5, HR_arg6, HR_arg7, HR_arg8, HR_arg17, HR_arg18, HR_arg19, ⟨%e_arg9, %he_arg9, HW_arg9⟩, ⟨%e_arg10, %he_arg10, HW_arg10⟩, ⟨%e_arg11, %he_arg11, HW_arg11⟩, ⟨%e_arg12, %he_arg12, HW_arg12⟩, ⟨%e_arg13, %he_arg13, HW_arg13⟩, ⟨%e_arg14, %he_arg14, HW_arg14⟩, ⟨%e_arg15, %he_arg15, HW_arg15⟩, ⟨%e_arg16, %he_arg16, HW_arg16⟩⟩
  sl_exec
  sl_step
  iapply Hk
  isplitl [HR_arg1]
  · iexists _; isplitr; swap; · iexact HR_arg1
    ipureintro; exact hf_arg1
  isplitl [HR_arg2]
  · iexists _; isplitr; swap; · iexact HR_arg2
    ipureintro; exact hf_arg2
  isplitl [HR_arg3]
  · iexists _; isplitr; swap; · iexact HR_arg3
    ipureintro; exact hf_arg3
  isplitl [HR_arg4]
  · iexists _; isplitr; swap; · iexact HR_arg4
    ipureintro; exact hf_arg4
  isplitl [HR_arg5]
  · iexists _; isplitr; swap; · iexact HR_arg5
    ipureintro; exact hf_arg5
  isplitl [HR_arg6]
  · iexists _; isplitr; swap; · iexact HR_arg6
    ipureintro; exact hf_arg6
  isplitl [HR_arg7]
  · iexists _; isplitr; swap; · iexact HR_arg7
    ipureintro; exact hf_arg7
  isplitl [HR_arg8]
  · iexists _; isplitr; swap; · iexact HR_arg8
    ipureintro; exact hf_arg8
  isplitl [HW_arg9]
  · iexists _; isplitr; swap; · iexact HW_arg9
    ipureintro; exact eq_of_rows256 _ (DQc I) (fun j => he_arg9 j (by have := j.isLt; omega))
  isplitl [HW_arg10]
  · iexists _; isplitr; swap; · iexact HW_arg10
    ipureintro; exact eq_of_rows256 _ (DKc I) (fun j => he_arg10 j (by have := j.isLt; omega))
  isplitl [HW_arg11]
  · iexists _; isplitr; swap; · iexact HW_arg11
    ipureintro; exact eq_of_rows512 _ (DVc I) (fun j => he_arg11 j (by have := j.isLt; omega))
  isplitl [HW_arg12]
  · iexists _; iexists _; isplitr; swap; · iexact HW_arg12
    ipureintro; rfl
  isplitl [HW_arg13]
  · iexists _; iexists _; isplitr; swap; · iexact HW_arg13
    ipureintro; rfl
  isplitl [HW_arg14]
  · iexists _; iexists _; isplitr; swap; · iexact HW_arg14
    ipureintro; rfl
  isplitl [HW_arg15]
  · iexists _; iexists _; isplitr; swap; · iexact HW_arg15
    ipureintro; rfl
  isplitl [HW_arg16]
  · iexists _; iexists _; isplitr; swap; · iexact HW_arg16
    ipureintro; rfl
  isplitl [HR_arg17]
  · iexists _; iexists _; isplitr; swap; · iexact HR_arg17
    ipureintro; rfl
  isplitl [HR_arg18]
  · iexists _; iexists _; isplitr; swap; · iexact HR_arg18
    ipureintro; rfl
  · iexists _; iexists _; isplitr; swap; · iexact HR_arg19
    ipureintro; rfl

variable (m : (ℓ : Loc nD τ sig) → Buf (Elt F) ℓ) (ρ : Dev nD → PrngReg)

/-- The blocks read at grid point `t`. -/
def In0 (c : Dev nD) (t : Fin cfg0.N) : In F where
  g := grid0.coords t 0
  qs := iblk m c 0 t
  ks := iblk m c 1 t
  vs := iblk m c 2 t
  q := iblk m c 3 t
  k := iblk m c 4 t
  v := iblk m c 5 t
  d := iblk m c 6 t
  s := iblk m c 7 t

/-- The proof data of the pipeline on core `c`: after the body at point `t` each input's buffer holds its block and the three
outputs' buffers the model's dq, dk and dv. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DQ (In0 m c t)
    | ⟨9, _⟩ => DK (In0 m c t)
    | ⟨10, _⟩ => DV (In0 m c t)
  Φ _ := Pipeline.ΦA spec0 c
  q _ := fullShare
  owed _ := 0

/-- The proof data's arrays are the ones the region finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DQ (In0 m c t) := by dsimp only [dats]
theorem after0_9 (c : Dev nD) (t : Fin cfg0.N) : (dats m 0 c).after 9 t = DK (In0 m c t) := by dsimp only [dats]
theorem after0_10 (c : Dev nD) (t : Fin cfg0.N) : (dats m 0 c).after 10 t = DV (In0 m c t) := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  simp only [← owns_whole (c : Thread nD τ) cc0_scratch0, ← owns_whole (c : Thread nD τ) cc0_scratch1, ← owns_whole (c : Thread nD τ) cc0_scratch2, ← owns_whole (c : Thread nD τ) cc0_scratch3, ← owns_whole (c : Thread nD τ) cc0_scratch4, ← owns_whole (c : Thread nD τ) cc0_scratch5, ← owns_whole (c : Thread nD τ) cc0_scratch6, ← owns_whole (c : Thread nD τ) cc0_scratch7]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (In0 m c t) rfl _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨H0, H1, H2, H3, H4, H5, H6, H7, H8, H9, H10, S0, S1, S2, S3, S4, S5, S6, S7⟩
  isplitl [S0 S1 S2 S3 S4 S5 S6 S7 Hp]
  · isplitr [Hp]; swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution terminates with every array of the pipeline at what the proof data gives, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Run

end
-- ==== Proof.Math.lean ====
/-
  The mathematics of one (batch, head) pair, over the extended reals: 32 chunks of 128 rows. Both programs' results are stated
  here as functions of one head's codes and scales, and shown equal when the scales of k, v and do are finite and not negative.
-/
module

public import Mathlib.Data.EReal.Inv
public import Mathlib.Algebra.BigOperators.Group.Finset.Basic
public import Mathlib.Algebra.BigOperators.Fin
public import Mathlib.Algebra.BigOperators.Intervals

@[expose] public section

noncomputable section

namespace Cert.Math

/-- One head's operands: the codes of q, k, v, do by chunk, row and column, the scales of q, k, v by chunk, of do by chunk and row. -/
structure Head where
  q : Fin 32 → Fin 128 → Fin 256 → EReal
  k : Fin 32 → Fin 128 → Fin 256 → EReal
  v : Fin 32 → Fin 128 → Fin 512 → EReal
  o : Fin 32 → Fin 128 → Fin 512 → EReal
  qs : Fin 32 → EReal
  ks : Fin 32 → EReal
  vs : Fin 32 → EReal
  os : Fin 32 → Fin 128 → EReal

/-- Chunk number `n` (of 32). -/
def ch (n : ℕ) : Fin 32 := ⟨n % 32, Nat.mod_lt _ (by decide)⟩

variable (H : Head)

/-- The masked products of the codes of v and do. -/
def xv (c : Fin 32) (s t : Fin 128) : EReal := if s ≤ t then ∑ e, H.v c s e * H.o c t e else 0
/-- The masked products of the codes of k and q. -/
def kq (c : Fin 32) (s t : Fin 128) : EReal := if s ≤ t then ∑ d, H.k c s d * H.q c t d else 0

/-- A chunk's contribution to the forward state. -/
def U (c : Fin 32) (e : Fin 512) (d : Fin 256) : EReal := (∑ s, H.v c s e * H.k c s d) * (H.ks c * H.vs c)
/-- A chunk's contribution to the backward state. -/
def W (c : Fin 32) (d : Fin 256) (e : Fin 512) : EReal := ∑ t, (H.q c t d * (H.os c t * H.qs c)) * H.o c t e
/-- The forward state after `n` chunks. -/
def S (n : ℕ) (e : Fin 512) (d : Fin 256) : EReal := ∑ i ∈ Finset.range n, U H (ch i) e d
/-- The backward state after the last `n` chunks. -/
def D (n : ℕ) (d : Fin 256) (e : Fin 512) : EReal := ∑ i ∈ Finset.range n, W H (ch (31 - i)) d e

/-- dq as the kernel computes it (`r` the factor of the head's width). -/
def kdq (r : EReal) (c : Fin 32) (t : Fin 128) (d : Fin 256) : EReal :=
  ((∑ e, H.o c t e * S H c.val e d) + ∑ s, (xv H c s t * (H.vs c * H.ks c)) * H.k c s d) * (H.os c t * r)
/-- dk as the kernel computes it. -/
def kdk (r : EReal) (c : Fin 32) (s : Fin 128) (d : Fin 256) : EReal :=
  ((∑ e, H.v c s e * D H (31 - c.val) d e) + ∑ t, (xv H c s t * (H.os c t * H.qs c)) * H.q c t d) * (H.vs c * r)
/-- dv as the kernel computes it. -/
def kdv (r : EReal) (c : Fin 32) (s : Fin 128) (e : Fin 512) : EReal :=
  ((∑ d, H.k c s d * D H (31 - c.val) d e) + ∑ t, (kq H c s t * (H.os c t * H.qs c)) * H.o c t e) * (H.ks c * r)

/-! ## The reference -/

/-- A chunk's contribution to the forward state, in the reference's order. -/
def rU (c : Fin 32) (d : Fin 256) (e : Fin 512) : EReal := (∑ s, H.k c s d * H.v c s e) * (H.ks c * H.vs c)
/-- A chunk's contribution to the backward state, in the reference's order. -/
def rW (c : Fin 32) (d : Fin 256) (e : Fin 512) : EReal := ∑ t, (H.q c t d * H.qs c) * (H.o c t e * H.os c t)
/-- The reference's forward state before chunk `c`: the contributions of the chunks below it. -/
def rS (c : Fin 32) (d : Fin 256) (e : Fin 512) : EReal := ∑ i ∈ Finset.range c.val, rU H (ch i) d e
/-- The reference's backward state after chunk `c`: the contributions of the chunks above it. -/
def rD (c : Fin 32) (d : Fin 256) (e : Fin 512) : EReal := ∑ i ∈ Finset.range (31 - c.val), rW H (ch (31 - i)) d e
/-- The reference's masked block of do and v. -/
def ra (c : Fin 32) (t s : Fin 128) : EReal := if s ≤ t then (∑ e, H.o c t e * H.v c s e) * (H.os c t * H.vs c) else 0
/-- The reference's masked block of q and k. -/
def rp (c : Fin 32) (t s : Fin 128) : EReal := if s ≤ t then (∑ d, H.q c t d * H.k c s d) * (H.qs c * H.ks c) else 0
/-- dq as the reference computes it. -/
def rdq (r : EReal) (c : Fin 32) (t : Fin 128) (d : Fin 256) : EReal :=
  ((∑ e, (H.o c t e * H.os c t) * rS H c d e) + ∑ s, ra H c t s * (H.k c s d * H.ks c)) * r
/-- dk as the reference computes it. -/
def rdk (r : EReal) (c : Fin 32) (s : Fin 128) (d : Fin 256) : EReal :=
  ((∑ e, (H.v c s e * H.vs c) * rD H c d e) + ∑ t, ra H c t s * (H.q c t d * H.qs c)) * r
/-- dv as the reference computes it. -/
def rdv (r : EReal) (c : Fin 32) (s : Fin 128) (e : Fin 512) : EReal :=
  ((∑ d, (H.k c s d * H.ks c) * rD H c d e) + ∑ t, rp H c t s * (H.o c t e * H.os c t)) * r

/-! ## They agree -/

/-- The contributions to the forward state agree: the same products in the other order. -/
theorem U_eq (c : Fin 32) (e : Fin 512) (d : Fin 256) : U H c e d = rU H c d e := by
  unfold U rU
  exact congrArg (· * _) (Finset.sum_congr rfl fun s _ => mul_comm _ _)

/-- The contributions to the backward state agree: the scales multiply the same terms. -/
theorem W_eq (c : Fin 32) (d : Fin 256) (e : Fin 512) : W H c d e = rW H c d e := by
  unfold W rW
  exact Finset.sum_congr rfl fun t _ => by ac_rfl

/-- The forward states agree. -/
theorem S_eq (c : Fin 32) (e : Fin 512) (d : Fin 256) : S H c.val e d = rS H c d e :=
  Finset.sum_congr rfl fun _ _ => U_eq H _ _ _

/-- The backward states agree. -/
theorem D_eq (c : Fin 32) (d : Fin 256) (e : Fin 512) : D H (31 - c.val) d e = rD H c d e :=
  Finset.sum_congr rfl fun _ _ => W_eq H _ _ _

/-- A finite factor that is not negative distributes over a finite sum of extended reals. -/
theorem sum_mul_fit {ι : Type} (s : Finset ι) (f : ι → EReal) (a : EReal) (h0 : 0 ≤ a) (ht : a ≠ ⊤) :
    (∑ i ∈ s, f i) * a = ∑ i ∈ s, f i * a := by
  classical
  induction s using Finset.induction_on with
  | empty => rw [Finset.sum_empty, Finset.sum_empty, zero_mul]
  | insert i s hi ih => rw [Finset.sum_insert hi, Finset.sum_insert hi, EReal.right_distrib_of_nonneg_of_ne_top h0 ht, ih]

/-- A finite factor that is not negative distributes over a sum of two sums. -/
theorem add_mul_fit {ι κ : Type} [Fintype ι] [Fintype κ] (f : ι → EReal) (g : κ → EReal) (a r : EReal) (h0 : 0 ≤ a) (ht : a ≠ ⊤) :
    ((∑ i, f i) + ∑ i, g i) * (a * r) = ((∑ i, f i * a) + ∑ i, g i * a) * r := by
  rw [← mul_assoc, EReal.right_distrib_of_nonneg_of_ne_top h0 ht, sum_mul_fit _ f a h0 ht, sum_mul_fit _ g a h0 ht]

/-- dq agrees where do's scale of the row is finite and not negative. -/
theorem dq_eq (r : EReal) (c : Fin 32) (t : Fin 128) (d : Fin 256) (h0 : 0 ≤ H.os c t) (ht : H.os c t ≠ ⊤) :
    kdq H r c t d = rdq H r c t d := by
  unfold kdq rdq
  rw [add_mul_fit _ _ _ _ h0 ht]
  refine congrArg (· * r) (congrArg₂ (· + ·) (Finset.sum_congr rfl fun e _ => ?_) (Finset.sum_congr rfl fun s _ => ?_))
  · rw [S_eq]; ac_rfl
  · unfold xv ra
    by_cases h : s ≤ t
    · rw [if_pos h, if_pos h, Finset.sum_congr rfl fun e _ => mul_comm (H.v c s e) (H.o c t e)]; ac_rfl
    · rw [if_neg h, if_neg h]; simp only [zero_mul]

/-- dk agrees where v's scale of the chunk is finite and not negative. -/
theorem dk_eq (r : EReal) (c : Fin 32) (s : Fin 128) (d : Fin 256) (h0 : 0 ≤ H.vs c) (ht : H.vs c ≠ ⊤) :
    kdk H r c s d = rdk H r c s d := by
  unfold kdk rdk
  rw [add_mul_fit _ _ _ _ h0 ht]
  refine congrArg (· * r) (congrArg₂ (· + ·) (Finset.sum_congr rfl fun e _ => ?_) (Finset.sum_congr rfl fun t _ => ?_))
  · rw [D_eq]; ac_rfl
  · unfold xv ra
    by_cases h : s ≤ t
    · rw [if_pos h, if_pos h, Finset.sum_congr rfl fun e _ => mul_comm (H.v c s e) (H.o c t e)]; ac_rfl
    · rw [if_neg h, if_neg h]; simp only [zero_mul]

/-- dv agrees where k's scale of the chunk is finite and not negative. -/
theorem dv_eq (r : EReal) (c : Fin 32) (s : Fin 128) (e : Fin 512) (h0 : 0 ≤ H.ks c) (ht : H.ks c ≠ ⊤) :
    kdv H r c s e = rdv H r c s e := by
  unfold kdv rdv
  rw [add_mul_fit _ _ _ _ h0 ht]
  refine congrArg (· * r) (congrArg₂ (· + ·) (Finset.sum_congr rfl fun d _ => ?_) (Finset.sum_congr rfl fun t _ => ?_))
  · rw [D_eq]; ac_rfl
  · unfold kq rp
    by_cases h : s ≤ t
    · rw [if_pos h, if_pos h, Finset.sum_congr rfl fun d _ => mul_comm (H.k c s d) (H.q c t d)]; ac_rfl
    · rw [if_neg h, if_neg h]; simp only [zero_mul]

end Cert.Math

end
-- ==== Proof.Head.lean ====
/-
  One head's operands cut out of the eight argument arrays, and the three result arrays as functions of the arguments.
-/
module

public import proofs.«01_k».proof.Proof.Math
public import Idealize.ShloMosaic.PureOps
public import Idealize.ShloMosaic.PureOps.Ideal
public import Idealize.ShloMosaic.Lib.ValueIdx
public import Idealize.ShloMosaic.Lib.Pointwise

@[expose] public section

noncomputable section

namespace Cert.Head

open Idealize.ShloMosaic

/-- An array of codes of q or k. -/
abbrev A256 : Type := (⟨4, ![8, 6, 4096, 256]⟩ : Shape).Idx → EReal
/-- An array of codes of v or do. -/
abbrev A512 : Type := (⟨4, ![8, 6, 4096, 512]⟩ : Shape).Idx → EReal
/-- An array of scales, one a chunk. -/
abbrev AC : Type := (⟨3, ![8, 6, 32]⟩ : Shape).Idx → EReal
/-- The array of scales of do, one a row. -/
abbrev AR : Type := (⟨3, ![8, 6, 4096]⟩ : Shape).Idx → EReal

/-- Row `t` of chunk `c`. -/
def row (c : Fin 32) (t : Fin 128) : Fin 4096 := ⟨c.val * 128 + t.val, by have := c.isLt; have := t.isLt; omega⟩
/-- The chunk of a row. -/
def chunk (r : Fin 4096) : Fin 32 := ⟨r.val / 128, by have := r.isLt; omega⟩
/-- A row's place in its chunk. -/
def place (r : Fin 4096) : Fin 128 := ⟨r.val % 128, Nat.mod_lt _ (by decide)⟩
/-- The batch of a pair. -/
def bat (g : Fin 48) : Fin 8 := ⟨g.val / 6, by have := g.isLt; omega⟩
/-- The head of a pair. -/
def hea (g : Fin 48) : Fin 6 := ⟨g.val % 6, Nat.mod_lt _ (by decide)⟩

/-- The factor of the head's width, one sixteenth. -/
def r : EReal := Ideal.ofBits .f32 0x3D800000#32

variable (x0 : A256) (x1 : AC) (x2 : A256) (x3 : AC) (x4 : A512) (x5 : AC) (x6 : A512) (x7 : AR)

/-- The operands of head `h` of batch `b`. -/
def head (b : Fin 8) (h : Fin 6) : Math.Head where
  q c s d := x0 (ix4 b h (row c s) d)
  k c s d := x2 (ix4 b h (row c s) d)
  v c s e := x4 (ix4 b h (row c s) e)
  o c s e := x6 (ix4 b h (row c s) e)
  qs c := x1 (ix3 b h c)
  ks c := x3 (ix3 b h c)
  vs c := x5 (ix3 b h c)
  os c t := x7 (ix3 b h (row c t))

/-- dq at pair `g`, row `i`, column `d`, as the kernel computes it. -/
def dq (g : Fin 48) (i : Fin 4096) (d : Fin 256) : EReal :=
  Math.kdq (head x0 x1 x2 x3 x4 x5 x6 x7 (bat g) (hea g)) r (chunk i) (place i) d
/-- dk at pair `g`, row `i`, column `d`, as the kernel computes it. -/
def dk (g : Fin 48) (i : Fin 4096) (d : Fin 256) : EReal :=
  Math.kdk (head x0 x1 x2 x3 x4 x5 x6 x7 (bat g) (hea g)) r (chunk i) (place i) d
/-- dv at pair `g`, row `i`, column `e`, as the kernel computes it. -/
def dv (g : Fin 48) (i : Fin 4096) (e : Fin 512) : EReal :=
  Math.kdv (head x0 x1 x2 x3 x4 x5 x6 x7 (bat g) (hea g)) r (chunk i) (place i) e

end Cert.Head

end
-- ==== Proof.Ideal.Point.lean ====
/-
  The model's chunk functions read at an index, over the extended reals: each is the formula of `Math` at one head's operands.
-/
module

public import proofs.«01_k».proof.Proof.Head
public import proofs.«01_k».proof.Proof.Ideal.Model
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Point

open Cert.Head (row r)
open Cert.KernelIdeal Cert.KernelIdeal.Gen Cert.KernelIdeal.Model
open Idealize.ShloMosaic Idealize.ShloMosaic.TcCoe

variable (I : In Ideal)

/-- The head's operands, as one grid point's blocks hold them. -/
def hd : Math.Head where
  q c s d := I.q (ix3 0 (row c s) d)
  k c s d := I.k (ix3 0 (row c s) d)
  v c s e := I.v (ix3 0 (row c s) e)
  o c s e := I.d (ix3 0 (row c s) e)
  qs c := I.qs (ix2 I.g c)
  ks c := I.ks (ix2 I.g c)
  vs c := I.vs (ix2 I.g c)
  os c t := I.s (ix3 0 c t)

/-- A chunk's rows at an index. -/
theorem rows256_at {α : Type} (x : S1x4096x256.Idx → α) (c : Fin 32) (s : Fin 128) (d : Fin 256) :
    rows256 x c (ix3 0 s d) = x (ix3 0 (row c s) d) := by
  refine congrArg x (funext fun a => Fin.ext ?_)
  match a with
  | ⟨0, _⟩ => rfl
  | ⟨1, _⟩ => show 128 * c.val + 1 * s.val = c.val * 128 + s.val; omega
  | ⟨2, _⟩ => show 0 + 1 * d.val = d.val; omega

/-- A chunk's rows at an index. -/
theorem rows512_at {α : Type} (x : S1x4096x512.Idx → α) (c : Fin 32) (s : Fin 128) (d : Fin 512) :
    rows512 x c (ix3 0 s d) = x (ix3 0 (row c s) d) := by
  refine congrArg x (funext fun a => Fin.ext ?_)
  match a with
  | ⟨0, _⟩ => rfl
  | ⟨1, _⟩ => show 128 * c.val + 1 * s.val = c.val * 128 + s.val; omega
  | ⟨2, _⟩ => show 0 + 1 * d.val = d.val; omega

/-- A chunk's scales of do at an index. -/
theorem tok_at {α : Type} (x : S1x32x128.Idx → α) (c : Fin 32) (t : Fin 128) :
    tok x c (ix3 0 0 t) = x (ix3 0 c t) := by
  refine congrArg x (funext fun a => Fin.ext ?_)
  match a with
  | ⟨0, _⟩ => rfl
  | ⟨1, _⟩ => show c.val + 1 * 0 = c.val; omega
  | ⟨2, _⟩ => show 0 + 1 * t.val = t.val; omega

/-- A chunk's scale. -/
theorem cell_at {α : Type} (x : S48x32.Idx → α) (g : Fin 48) (c : Fin 32) : cell x g c = x (ix2 g c) := by
  refine congrArg x (funext fun a => Fin.ext ?_)
  match a with
  | ⟨0, _⟩ => show g.val + 1 * 0 = g.val; omega
  | ⟨1, _⟩ => show c.val + 1 * 0 = c.val; omega

/-- The causal mask at an index. -/
theorem mask_at (s t : Fin 128) : (k0_pay1 (ix2 s t : S128x128.Idx)) = if s ≤ t then 1#1 else 0#1 := by
  pointwise [k0_pay1]
  exact (by decide +kernel : ∀ s t : Fin 128, IntOp.cmpi CmpIPredicate.sle (BitVec.ofNat 32 ↑s) (BitVec.ofNat 32 ↑t) = if s ≤ t then 1#1 else 0#1) s t

/-- A choice by the causal mask. -/
theorem select_mask (s t : Fin 128) (a b : EReal) : Scalar.select (k0_pay1 (ix2 s t : S128x128.Idx)) a b = if s ≤ t then a else b := by
  rw [mask_at]
  by_cases h : s ≤ t
  · rw [if_pos h, if_pos h]; rfl
  · rw [if_neg h, if_neg h]; rfl

/-- The masked products of v and do. -/
theorem XVc_at (c : Fin 32) (s t : Fin 128) : XVc I c (ix2 s t) = Math.xv (hd I) c s t := by
  unfold XVc
  pointwise [k0_pay17, rows512_at]
  exact select_mask s t _ _

/-- The block that dk multiplies by q. -/
theorem ATc_at (c : Fin 32) (s t : Fin 128) :
    ATc I c (ix3 0 s t) = Math.xv (hd I) c s t * ((hd I).os c t * (hd I).qs c) := by
  unfold ATc
  pointwise [k0_pay20, k0_pay16, XVc_at, cell_at, tok_at, hd]

/-- The block that dq multiplies by k. -/
theorem Ac_at (c : Fin 32) (s t : Fin 128) :
    Ac I c (ix3 0 t s) = Math.xv (hd I) c s t * ((hd I).vs c * (hd I).ks c) := by
  unfold Ac
  pointwise [k0_pay21, XVc_at, cell_at, hd]

/-- The block that dv multiplies by do. -/
theorem PTc_at (c : Fin 32) (s t : Fin 128) :
    PTc I c (ix3 0 s t) = Math.kq (hd I) c s t * ((hd I).os c t * (hd I).qs c) := by
  unfold PTc
  pointwise [k0_pay22, k0_pay18, k0_pay19, k0_pay16, cell_at, tok_at, rows256_at]
  rw [select_mask]
  unfold Math.kq
  by_cases h : s ≤ t
  · rw [if_pos h, if_pos h]; rfl
  · rw [if_neg h, if_neg h, zero_mul]

/-- One chunk's step of the forward state. -/
theorem ST_succ (n : ℕ) (e : Fin 512) (d : Fin 256) :
    Model.ST I (n + 1) (ix2 e d) = Model.ST I n (ix2 e d) + Math.U (hd I) (ch n) e d := by
  rw [Model.ST]
  generalize Model.ST I n = X
  pointwise [k0_pay46, k0_pay45, k0_pay39, k0_pay40, rows256_at, rows512_at, cell_at, Math.U, hd]

/-- One chunk's step of the backward state. -/
theorem DS_succ (n : ℕ) (d : Fin 256) (e : Fin 512) :
    Model.DS I (n + 1) (ix2 d e) = Model.DS I n (ix2 d e) + Math.W (hd I) (ch (31 - n)) d e := by
  rw [Model.DS]
  generalize Model.DS I n = X
  pointwise [k0_pay54, k0_pay53, k0_pay48, k0_pay49, rows256_at, rows512_at, cell_at, tok_at, Math.W, hd]

/-- The forward state. -/
theorem ST_at (n : ℕ) (e : Fin 512) (d : Fin 256) : Model.ST I n (ix2 e d) = Math.S (hd I) n e d := by
  induction n with
  | zero =>
    rw [Model.ST]
    pointwise [k0_pay2, Math.S]
    rfl
  | succ n ih => rw [ST_succ, ih, Math.S, Math.S, Finset.sum_range_succ]; rfl

/-- The backward state. -/
theorem DS_at (n : ℕ) (d : Fin 256) (e : Fin 512) : Model.DS I n (ix2 d e) = Math.D (hd I) n d e := by
  induction n with
  | zero =>
    rw [Model.DS]
    pointwise [k0_pay4, Math.D]
    rfl
  | succ n ih => rw [DS_succ, ih, Math.D, Math.D, Finset.sum_range_succ]; rfl

/-- The forward state as it is rounded: the same number. -/
theorem STB_at (n : ℕ) (e : Fin 512) (d : Fin 256) : Model.STB I n (ix2 e d) = Math.S (hd I) n e d := by
  rw [← ST_at]
  cases n with
  | zero =>
    rw [Model.ST, Model.STB]
    pointwise [k0_pay2, k0_pay3]
  | succ n =>
    rw [Model.ST, Model.STB]
    pointwise [k0_pay46, k0_pay47]

/-- The backward state as it is rounded: the same number. -/
theorem DSB_at (n : ℕ) (d : Fin 256) (e : Fin 512) : Model.DSB I n (ix2 d e) = Math.D (hd I) n d e := by
  rw [← DS_at]
  cases n with
  | zero =>
    rw [Model.DS, Model.DSB]
    pointwise [k0_pay4, k0_pay5]
  | succ n =>
    rw [Model.DS, Model.DSB]
    pointwise [k0_pay54, k0_pay56, k0_pay55]

/-- The backward state as it is rounded and transposed. -/
theorem DST_at (n : ℕ) (d : Fin 256) (e : Fin 512) : Model.DST I n (ix2 e d) = Math.D (hd I) n d e := by
  rw [← DS_at]
  cases n with
  | zero =>
    rw [Model.DS, Model.DST]
    pointwise [k0_pay4, k0_pay6]
  | succ n =>
    rw [Model.DS, Model.DST]
    pointwise [k0_pay54, k0_pay57, k0_pay55]

/-- dq at an index. -/
theorem DQc_at (c : Fin 32) (t : Fin 128) (d : Fin 256) : DQc I c (ix3 0 t d) = Math.kdq (hd I) r c t d := by
  unfold DQc
  pointwise [k0_pay44, k0_pay41, k0_pay39, k0_pay42, k0_pay43, Ac_at, STB_at, rows256_at, rows512_at, tok_at]
  simp only [dite_eq_ite, ite_self]
  rfl

/-- dk at an index. -/
theorem DKc_at (c : Fin 32) (s : Fin 128) (d : Fin 256) : DKc I c (ix3 0 s d) = Math.kdk (hd I) r c s d := by
  unfold DKc
  pointwise [k0_pay50, k0_pay48, ATc_at, DST_at, rows256_at, rows512_at, cell_at]
  rfl

/-- dv at an index. -/
theorem DVc_at (c : Fin 32) (s : Fin 128) (e : Fin 512) : DVc I c (ix3 0 s e) = Math.kdv (hd I) r c s e := by
  unfold DVc
  pointwise [k0_pay52, k0_pay49, k0_pay51, PTc_at, DSB_at, rows256_at, rows512_at, cell_at]
  rfl

/-- The block of dq at an index. -/
theorem DQ_at (j : S1x4096x256.Idx) : DQ I j = Math.kdq (hd I) r (Head.chunk (j 1)) (Head.place (j 1)) (j 2) := by
  refine Eq.trans (congrArg (DQc I (chunkOf (j 1))) (funext fun a => ?_)) (DQc_at I (Head.chunk (j 1)) (Head.place (j 1)) (j 2))
  match a with
  | ⟨0, _⟩ => exact Subsingleton.elim (α := Fin 1) _ _
  | ⟨1, _⟩ => rfl
  | ⟨2, _⟩ => rfl

/-- The block of dk at an index. -/
theorem DK_at (j : S1x4096x256.Idx) : DK I j = Math.kdk (hd I) r (Head.chunk (j 1)) (Head.place (j 1)) (j 2) := by
  refine Eq.trans (congrArg (DKc I (chunkOf (j 1))) (funext fun a => ?_)) (DKc_at I (Head.chunk (j 1)) (Head.place (j 1)) (j 2))
  match a with
  | ⟨0, _⟩ => exact Subsingleton.elim (α := Fin 1) _ _
  | ⟨1, _⟩ => rfl
  | ⟨2, _⟩ => rfl

/-- The block of dv at an index. -/
theorem DV_at (j : S1x4096x512.Idx) : DV I j = Math.kdv (hd I) r (Head.chunk (j 1)) (Head.place (j 1)) (j 2) := by
  refine Eq.trans (congrArg (DVc I (chunkOf (j 1))) (funext fun a => ?_)) (DVc_at I (Head.chunk (j 1)) (Head.place (j 1)) (j 2))
  match a with
  | ⟨0, _⟩ => exact Subsingleton.elim (α := Fin 1) _ _
  | ⟨1, _⟩ => rfl
  | ⟨2, _⟩ => rfl

end Cert.KernelIdeal.Point

end
-- ==== Proof.Ideal.Value.lean ====
/-
  The kernel's three result arrays, over the extended reals, as functions of its argument arrays.
-/
module

public import proofs.«01_k».proof.Proof.Ideal.Point
public import proofs.«01_k».proof.Proof.Ideal.Frame
public import Idealize.ShloMosaic.Lib.Pipeline.ValueKit

@[expose] public section

set_option maxRecDepth 16384

noncomputable section

namespace Cert.KernelIdeal.Value

open Cert.KernelIdeal Cert.KernelIdeal.Gen Cert.KernelIdeal.Model Cert.KernelIdeal.Run
open Idealize.ShloMosaic Idealize.ShloMosaic.TcCoe Idealize.SL.Sem
open Idealize.ShloMosaic.Pipeline (Dat)

variable (m : (ℓ : Loc nD τ sig) → Buf (Elt Ideal) ℓ)

/-- The windows' index maps at every point. -/
theorem idx : ∀ t : Fin cfg0.N, win0_0.index t = ![0, 0] ∧ win0_1.index t = ![0, 0] ∧ win0_2.index t = ![0, 0]
    ∧ win0_3.index t = ![(grid0.coords t 0).val, 0, 0] ∧ win0_4.index t = ![(grid0.coords t 0).val, 0, 0]
    ∧ win0_5.index t = ![(grid0.coords t 0).val, 0, 0] ∧ win0_6.index t = ![(grid0.coords t 0).val, 0, 0]
    ∧ win0_7.index t = ![(grid0.coords t 0).val, 0, 0] ∧ win0_8.index t = ![(grid0.coords t 0).val, 0, 0]
    ∧ win0_9.index t = ![(grid0.coords t 0).val, 0, 0] ∧ win0_10.index t = ![(grid0.coords t 0).val, 0, 0] :=
  (by decide +kernel : ∀ t : Fin grid0.N, _)

/-- The head of a pair, from the argument arrays as launched. -/
abbrev hdA (c : Dev nD) (g : Fin 48) : Math.Head :=
  Head.head (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (Head.bat g) (Head.hea g)

/-- The block of q at an index. -/
theorem read_q (c : Dev nD) (t : Fin cfg0.N) (i : Fin 4096) (d : Fin 256) :
    (In0 m c t).q (ix3 0 i d) = m ((c : Thread nD τ).loc main_arg0) (ix4 (Head.bat (grid0.coords t 0)) (Head.hea (grid0.coords t 0)) i d) := by
  show iblk m c 3 t (ix3 0 i d) = _
  blk_point [iblk, V, idx t] <;> rfl

/-- The block of k at an index. -/
theorem read_k (c : Dev nD) (t : Fin cfg0.N) (i : Fin 4096) (d : Fin 256) :
    (In0 m c t).k (ix3 0 i d) = m ((c : Thread nD τ).loc main_arg2) (ix4 (Head.bat (grid0.coords t 0)) (Head.hea (grid0.coords t 0)) i d) := by
  show iblk m c 4 t (ix3 0 i d) = _
  blk_point [iblk, V, idx t] <;> rfl

/-- The block of v at an index. -/
theorem read_v (c : Dev nD) (t : Fin cfg0.N) (i : Fin 4096) (d : Fin 512) :
    (In0 m c t).v (ix3 0 i d) = m ((c : Thread nD τ).loc main_arg4) (ix4 (Head.bat (grid0.coords t 0)) (Head.hea (grid0.coords t 0)) i d) := by
  show iblk m c 5 t (ix3 0 i d) = _
  blk_point [iblk, V, idx t] <;> rfl

/-- The block of do at an index. -/
theorem read_d (c : Dev nD) (t : Fin cfg0.N) (i : Fin 4096) (d : Fin 512) :
    (In0 m c t).d (ix3 0 i d) = m ((c : Thread nD τ).loc main_arg6) (ix4 (Head.bat (grid0.coords t 0)) (Head.hea (grid0.coords t 0)) i d) := by
  show iblk m c 6 t (ix3 0 i d) = _
  blk_point [iblk, V, idx t] <;> rfl

/-- The table of q's scales at an index. -/
theorem read_qs (c : Dev nD) (t : Fin cfg0.N) (g : Fin 48) (j : Fin 32) :
    (In0 m c t).qs (ix2 g j) = m ((c : Thread nD τ).loc main_arg1) (ix3 (Head.bat g) (Head.hea g) j) := by
  show iblk m c 0 t (ix2 g j) = _
  blk_point [iblk, V, idx t] <;> rfl

/-- The table of k's scales at an index. -/
theorem read_ks (c : Dev nD) (t : Fin cfg0.N) (g : Fin 48) (j : Fin 32) :
    (In0 m c t).ks (ix2 g j) = m ((c : Thread nD τ).loc main_arg3) (ix3 (Head.bat g) (Head.hea g) j) := by
  show iblk m c 1 t (ix2 g j) = _
  blk_point [iblk, V, idx t] <;> rfl

/-- The table of v's scales at an index. -/
theorem read_vs (c : Dev nD) (t : Fin cfg0.N) (g : Fin 48) (j : Fin 32) :
    (In0 m c t).vs (ix2 g j) = m ((c : Thread nD τ).loc main_arg5) (ix3 (Head.bat g) (Head.hea g) j) := by
  show iblk m c 2 t (ix2 g j) = _
  blk_point [iblk, V, idx t] <;> rfl

/-- The block of do's scales at an index. -/
theorem read_s (c : Dev nD) (t : Fin cfg0.N) (j : Fin 32) (i : Fin 128) :
    (In0 m c t).s (ix3 0 j i) = m ((c : Thread nD τ).loc main_arg7) (ix3 (Head.bat (grid0.coords t 0)) (Head.hea (grid0.coords t 0)) (Head.row j i)) := by
  show iblk m c 7 t (ix3 0 j i) = _
  blk_point [iblk, V, idx t] <;> rfl

/-- One grid point's operands are the pair's head of the argument arrays. -/
theorem hd_eq (c : Dev nD) (t : Fin cfg0.N) : Point.hd (In0 m c t) = hdA m c (grid0.coords t 0) := by
  unfold Point.hd hdA Head.head
  simp only [read_q, read_k, read_v, read_d, read_qs, read_ks, read_vs, read_s]
  rfl

/-- The array of dq after the run. -/
theorem final8 (c : Dev nD) : (dats m 0 c).arrAt 8 (cfgs 0).N
    = fun j : S48x4096x256.Idx => Math.kdq (hdA m c (j 0)) Head.r (Head.chunk (j 1)) (Head.place (j 1)) (j 2) := by
  refine (dats m 0 c).arrAt_eq_of_covers 8 _ (by decide +kernel) fun t hf y => ?_
  blk_simp
  rw [after0_8]
  have key : ∀ (g g' : Fin 48) (a a' : Fin 4096) (d d' : Fin 256), g = g' → a = a' → d = d' →
      Math.kdq (hdA m c g) Head.r (Head.chunk a) (Head.place a) d = Math.kdq (hdA m c g') Head.r (Head.chunk a') (Head.place a') d' := by
    rintro g _ a _ d _ rfl rfl rfl; rfl
  have e0 : (win0_8.blk t).view.emb y 0 = grid0.coords t 0 := Fin.ext (by
    have hy : (y 0).val < 1 := (y 0).isLt
    blk_simp [idx t])
  have e1 : (win0_8.blk t).view.emb y 1 = y 1 := Fin.ext (by blk_simp [idx t])
  have e2 : (win0_8.blk t).view.emb y 2 = y 2 := Fin.ext (by blk_simp [idx t])
  exact (Point.DQ_at (In0 m c t) y).trans
    ((congrArg (fun H => Math.kdq H Head.r (Head.chunk (y 1)) (Head.place (y 1)) (y 2)) (hd_eq m c t)).trans
      (key _ _ _ _ _ _ e0.symm e1.symm e2.symm))

/-- The array of dk after the run. -/
theorem final9 (c : Dev nD) : (dats m 0 c).arrAt 9 (cfgs 0).N
    = fun j : S48x4096x256.Idx => Math.kdk (hdA m c (j 0)) Head.r (Head.chunk (j 1)) (Head.place (j 1)) (j 2) := by
  refine (dats m 0 c).arrAt_eq_of_covers 9 _ (by decide +kernel) fun t hf y => ?_
  blk_simp
  rw [after0_9]
  have key : ∀ (g g' : Fin 48) (a a' : Fin 4096) (d d' : Fin 256), g = g' → a = a' → d = d' →
      Math.kdk (hdA m c g) Head.r (Head.chunk a) (Head.place a) d = Math.kdk (hdA m c g') Head.r (Head.chunk a') (Head.place a') d' := by
    rintro g _ a _ d _ rfl rfl rfl; rfl
  have e0 : (win0_9.blk t).view.emb y 0 = grid0.coords t 0 := Fin.ext (by
    have hy : (y 0).val < 1 := (y 0).isLt
    blk_simp [idx t])
  have e1 : (win0_9.blk t).view.emb y 1 = y 1 := Fin.ext (by blk_simp [idx t])
  have e2 : (win0_9.blk t).view.emb y 2 = y 2 := Fin.ext (by blk_simp [idx t])
  exact (Point.DK_at (In0 m c t) y).trans
    ((congrArg (fun H => Math.kdk H Head.r (Head.chunk (y 1)) (Head.place (y 1)) (y 2)) (hd_eq m c t)).trans
      (key _ _ _ _ _ _ e0.symm e1.symm e2.symm))

/-- The array of dv after the run. -/
theorem final10 (c : Dev nD) : (dats m 0 c).arrAt 10 (cfgs 0).N
    = fun j : S48x4096x512.Idx => Math.kdv (hdA m c (j 0)) Head.r (Head.chunk (j 1)) (Head.place (j 1)) (j 2) := by
  refine (dats m 0 c).arrAt_eq_of_covers 10 _ (by decide +kernel) fun t hf y => ?_
  blk_simp
  rw [after0_10]
  have key : ∀ (g g' : Fin 48) (a a' : Fin 4096) (d d' : Fin 512), g = g' → a = a' → d = d' →
      Math.kdv (hdA m c g) Head.r (Head.chunk a) (Head.place a) d = Math.kdv (hdA m c g') Head.r (Head.chunk a') (Head.place a') d' := by
    rintro g _ a _ d _ rfl rfl rfl; rfl
  have e0 : (win0_10.blk t).view.emb y 0 = grid0.coords t 0 := Fin.ext (by
    have hy : (y 0).val < 1 := (y 0).isLt
    blk_simp [idx t])
  have e1 : (win0_10.blk t).view.emb y 1 = y 1 := Fin.ext (by blk_simp [idx t])
  have e2 : (win0_10.blk t).view.emb y 2 = y 2 := Fin.ext (by blk_simp [idx t])
  exact (Point.DV_at (In0 m c t) y).trans
    ((congrArg (fun H => Math.kdv H Head.r (Head.chunk (y 1)) (Head.place (y 1)) (y 2)) (hd_eq m c t)).trans
      (key _ _ _ _ _ _ e0.symm e1.symm e2.symm))

end Cert.KernelIdeal.Value

end
-- ==== Proof.Ref.Region.lean ====
/-
  The reference's change of format: over the extended reals it leaves the four arrays of codes as they are.
-/
module

public import proofs.«01_k».proof.Proof.Gen.ReferenceIdeal.Run
public import Idealize.ShloMosaic.PureOps.Ideal.Laws
public import Idealize.ShloMosaic.Lib.Pipeline.Value

@[expose] public section

set_option maxRecDepth 16384

noncomputable section

namespace Cert.ReferenceIdeal.Region

open Cert.ReferenceIdeal Cert.ReferenceIdeal.Gen Cert.ReferenceIdeal.Value
open Idealize.ShloMosaic Idealize.ShloMosaic.TcCoe Idealize.SL.Sem
open Idealize.ShloMosaic.Pipeline (Dat Cfg Window)

variable (m : (ℓ : Loc nD τ sig) → Buf (Elt Ideal) ℓ)

/-- The one grid point. -/
def t₀ : Fin cfg0.N := ⟨0, by decide⟩

theorem z256 : (![0, 0, 0, 0] : Fin S8x6x4096x256.rank → Nat) = fun _ => 0 := funext fun a => by fin_cases a <;> rfl
theorem z512 : (![0, 0, 0, 0] : Fin S8x6x4096x512.rank → Nat) = fun _ => 0 := funext fun a => by fin_cases a <;> rfl

/-- q's codes after the change of format. -/
theorem reg0 (c : Dev nD) : reg_main_v0_0 m c = m ((c : Thread nD τ).loc main_arg0) := by
  have ho : ((cfg0.win (4 : Fin 8)).blk t₀).view.read (Elt Ideal) ((dats m 0 c).arrAt (4 : Fin 8) cfg0.N) = (dats m 0 c).flushed (4 : Fin 8) t₀ := by
    rw [show cfg0.N = (t₀ : Fin cfg0.N).val + 1 from rfl, (dats m 0 c).arrAt_succ (4 : Fin 8) t₀]
    rw [show (cfg0.win (4 : Fin 8)).flush t₀ = true from by decide, if_pos rfl]
    exact View.read_write_univ _ _
  have hz : (fun a => (win0_4.index t₀) a * main_v0_0.ty.shape.size a) = fun _ => 0 := funext fun a => by fin_cases a <;> decide
  have hr := fun f => Memref.read_access_unit_zero (Elt Ideal) main_v0_0 hz (fun a => by fin_cases a <;> decide) f
  have hz0 : (fun a => (win0_0.index t₀) a * main_arg0.ty.shape.size a) = fun _ => 0 := funext fun a => by fin_cases a <;> decide
  have hr0 := fun f => Memref.read_access_unit_zero (Elt Ideal) main_arg0 hz0 (fun a => by fin_cases a <;> decide) f
  rw [hr] at ho
  unfold reg_main_v0_0
  rw [ho]
  show (cfg0.win (4 : Fin 8)).cut _ ((dats m 0 c).after 4 t₀) = _
  rw [after0_4]
  unfold out0_4
  rw [View.canon_unit_zero z256, View.ld_unit_zero z256]
  unfold iblk
  rw [hr0]
  rfl

/-- k's codes after the change of format. -/
theorem reg1 (c : Dev nD) : reg_main_v0_1 m c = m ((c : Thread nD τ).loc main_arg2) := by
  have ho : ((cfg0.win (5 : Fin 8)).blk t₀).view.read (Elt Ideal) ((dats m 0 c).arrAt (5 : Fin 8) cfg0.N) = (dats m 0 c).flushed (5 : Fin 8) t₀ := by
    rw [show cfg0.N = (t₀ : Fin cfg0.N).val + 1 from rfl, (dats m 0 c).arrAt_succ (5 : Fin 8) t₀]
    rw [show (cfg0.win (5 : Fin 8)).flush t₀ = true from by decide, if_pos rfl]
    exact View.read_write_univ _ _
  have hz : (fun a => (win0_5.index t₀) a * main_v0_1.ty.shape.size a) = fun _ => 0 := funext fun a => by fin_cases a <;> decide
  have hr := fun f => Memref.read_access_unit_zero (Elt Ideal) main_v0_1 hz (fun a => by fin_cases a <;> decide) f
  have hz0 : (fun a => (win0_1.index t₀) a * main_arg2.ty.shape.size a) = fun _ => 0 := funext fun a => by fin_cases a <;> decide
  have hr0 := fun f => Memref.read_access_unit_zero (Elt Ideal) main_arg2 hz0 (fun a => by fin_cases a <;> decide) f
  rw [hr] at ho
  unfold reg_main_v0_1
  rw [ho]
  show (cfg0.win (5 : Fin 8)).cut _ ((dats m 0 c).after 5 t₀) = _
  rw [after0_5]
  unfold out0_5
  rw [View.canon_unit_zero z256, View.ld_unit_zero z256]
  unfold iblk
  rw [hr0]
  rfl

/-- v's codes after the change of format. -/
theorem reg2 (c : Dev nD) : reg_main_v0_2 m c = m ((c : Thread nD τ).loc main_arg4) := by
  have ho : ((cfg0.win (6 : Fin 8)).blk t₀).view.read (Elt Ideal) ((dats m 0 c).arrAt (6 : Fin 8) cfg0.N) = (dats m 0 c).flushed (6 : Fin 8) t₀ := by
    rw [show cfg0.N = (t₀ : Fin cfg0.N).val + 1 from rfl, (dats m 0 c).arrAt_succ (6 : Fin 8) t₀]
    rw [show (cfg0.win (6 : Fin 8)).flush t₀ = true from by decide, if_pos rfl]
    exact View.read_write_univ _ _
  have hz : (fun a => (win0_6.index t₀) a * main_v0_2.ty.shape.size a) = fun _ => 0 := funext fun a => by fin_cases a <;> decide
  have hr := fun f => Memref.read_access_unit_zero (Elt Ideal) main_v0_2 hz (fun a => by fin_cases a <;> decide) f
  have hz0 : (fun a => (win0_2.index t₀) a * main_arg4.ty.shape.size a) = fun _ => 0 := funext fun a => by fin_cases a <;> decide
  have hr0 := fun f => Memref.read_access_unit_zero (Elt Ideal) main_arg4 hz0 (fun a => by fin_cases a <;> decide) f
  rw [hr] at ho
  unfold reg_main_v0_2
  rw [ho]
  show (cfg0.win (6 : Fin 8)).cut _ ((dats m 0 c).after 6 t₀) = _
  rw [after0_6]
  unfold out0_6
  rw [View.canon_unit_zero z512, View.ld_unit_zero z512]
  unfold iblk
  rw [hr0]
  rfl

/-- do's codes after the change of format. -/
theorem reg3 (c : Dev nD) : reg_main_v0_3 m c = m ((c : Thread nD τ).loc main_arg6) := by
  have ho : ((cfg0.win (7 : Fin 8)).blk t₀).view.read (Elt Ideal) ((dats m 0 c).arrAt (7 : Fin 8) cfg0.N) = (dats m 0 c).flushed (7 : Fin 8) t₀ := by
    rw [show cfg0.N = (t₀ : Fin cfg0.N).val + 1 from rfl, (dats m 0 c).arrAt_succ (7 : Fin 8) t₀]
    rw [show (cfg0.win (7 : Fin 8)).flush t₀ = true from by decide, if_pos rfl]
    exact View.read_write_univ _ _
  have hz : (fun a => (win0_7.index t₀) a * main_v0_3.ty.shape.size a) = fun _ => 0 := funext fun a => by fin_cases a <;> decide
  have hr := fun f => Memref.read_access_unit_zero (Elt Ideal) main_v0_3 hz (fun a => by fin_cases a <;> decide) f
  have hz0 : (fun a => (win0_3.index t₀) a * main_arg6.ty.shape.size a) = fun _ => 0 := funext fun a => by fin_cases a <;> decide
  have hr0 := fun f => Memref.read_access_unit_zero (Elt Ideal) main_arg6 hz0 (fun a => by fin_cases a <;> decide) f
  rw [hr] at ho
  unfold reg_main_v0_3
  rw [ho]
  show (cfg0.win (7 : Fin 8)).cut _ ((dats m 0 c).after 7 t₀) = _
  rw [after0_7]
  unfold out0_7
  rw [View.canon_unit_zero z512, View.ld_unit_zero z512]
  unfold iblk
  rw [hr0]
  rfl

end Cert.ReferenceIdeal.Region

end
-- ==== Proof.Ref.Cumsum.lean ====
/-
  The reference's running sum over the chunks, read at an entry, over the extended reals.
-/
module

public import Idealize.ShloMosaic.Lib.Pointwise
public import Idealize.ShloMosaic.Lib.ValueIdx
public import Idealize.ShloMosaic.PureOps.Ideal.Laws
public import Mathlib.Algebra.BigOperators.Intervals

@[expose] public section

set_option maxRecDepth 16384

noncomputable section

namespace Cert.ReferenceIdeal.Cumsum

open Idealize.ShloMosaic

/-- The arrays the running sums are taken of: 31 chunks' states of each of the 48 heads. -/
abbrev St : Shape := ⟨5, ![8, 6, 31, 256, 512]⟩
/-- The scalar's shape. -/
abbrev Sc : Shape := ⟨0, ![]⟩
/-- The window's shape. -/
abbrev Wn : Shape := ⟨5, ![1, 1, 31, 1, 1]⟩

/-- Position `n` of the 31 chunks, counted round. -/
def at31 (n : ℕ) : Fin 31 := ⟨n % 31, Nat.mod_lt _ (by norm_num)⟩

/-- A sum over the 31 places of the window of the terms that lie inside the array is the sum of the entries up to `c`. -/
theorem sum_window (f : ℕ → EReal) (c : ℕ) (hc : c < 31) :
    (∑ k : Fin 31, if 30 ≤ c + k.val then f (c + k.val - 30) else 0) = ∑ i ∈ Finset.range (c + 1), f i := by
  rw [Fin.sum_univ_eq_sum_range (fun k => if 30 ≤ c + k then f (c + k - 30) else 0) 31]
  obtain ⟨n, hn⟩ : ∃ n, 31 = n + (c + 1) := ⟨30 - c, by omega⟩
  rw [hn, Finset.sum_range_add]
  rw [Finset.sum_eq_zero fun i hi => if_neg (by have := Finset.mem_range.mp hi; omega), zero_add]
  exact Finset.sum_congr rfl fun i _ => by rw [if_pos (by omega)]; exact congrArg f (by omega)

/-- A windowed sum started from zero, at an entry: the sum over the window's places that lie inside the array. -/
theorem window_at {s t u : Shape} (window strides lo hi : Fin s.rank → Nat) (x : s.Idx → EReal) (init : u.Idx → EReal)
    (h : s.ReduceWindows window strides lo hi t) (hu : 0 < u.numel) (hi0 : init (Shape.Idx.first hu) = 0) (j : t.Idx) :
    Host.reduceWindow (fun a b : EReal => a + b) window strides lo hi x init h hu j
      = ∑ w : (⟨s.rank, window⟩ : Shape).Idx,
        if hin : ∀ a : Fin s.rank, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  rw [sum_idx_eq_foldl]
  unfold Host.reduceWindow
  dsimp only
  rw [hi0]
  refine congrArg (fun f => List.foldl f (0 : EReal) _) (funext fun r => funext fun n => congrArg (r + ·) ?_)
  split
  · rfl
  · rfl

/-- A window of the 31 chunks that ends at the entry's own chunk, started from zero, adds up the entries of the chunks up to it. -/
theorem cumsum_at (x : FVec Ideal St .f32) (init : FVec Ideal Sc .f32) (hi : ∀ i, init i = (0 : EReal))
    (h : St.ReduceWindows (![1, 1, 31, 1, 1] : Fin 5 → Nat) ![1, 1, 1, 1, 1] ![0, 0, 30, 0, 0] ![0, 0, 0, 0, 0] St) (hu : 0 < Sc.numel)
    (b : Fin 8) (g : Fin 6) (c : Fin 31) (d : Fin 256) (e : Fin 512) :
    Host.reduceWindowAdd ![1, 1, 31, 1, 1] ![1, 1, 1, 1, 1] ![0, 0, 30, 0, 0] ![0, 0, 0, 0, 0] x init h hu (ix5 b g c d e)
      = ∑ i ∈ Finset.range (c.val + 1), (x (ix5 b g (at31 i) d e) : EReal) := by
  refine Eq.trans (window_at (s := St) (t := St) (u := Sc) _ _ _ _ x (fun _ => init (Shape.Idx.first hu)) h (by decide) (hi _) _) ?_
  refine Eq.trans (sum_idx5 (n0 := 1) (n1 := 1) (n2 := 31) (n3 := 1) (n4 := 1) _) ?_
  simp only [Finset.univ_unique, Finset.sum_singleton]
  refine Eq.trans (Finset.sum_congr rfl fun k _ => ?_) (sum_window (fun i => x (ix5 b g (at31 i) d e)) c.val c.isLt)
  have hc := c.isLt
  have hk := k.isLt
  by_cases hle : 30 ≤ c.val + k.val
  · rw [if_pos hle, dif_pos]
    · refine congrArg x (funext fun a => Fin.ext ?_)
      match a with
      | ⟨0, _⟩ => show b.val * 1 + 0 - 0 = b.val; omega
      | ⟨1, _⟩ => show g.val * 1 + 0 - 0 = g.val; omega
      | ⟨2, _⟩ => show c.val * 1 + k.val - 30 = (c.val + k.val - 30) % 31; omega
      | ⟨3, _⟩ => show d.val * 1 + 0 - 0 = d.val; omega
      | ⟨4, _⟩ => show e.val * 1 + 0 - 0 = e.val; omega
    · intro a
      match a with
      | ⟨0, _⟩ => show 0 ≤ b.val * 1 + 0 ∧ b.val * 1 + 0 - 0 < 8; omega
      | ⟨1, _⟩ => show 0 ≤ g.val * 1 + 0 ∧ g.val * 1 + 0 - 0 < 6; omega
      | ⟨2, _⟩ => show 30 ≤ c.val * 1 + k.val ∧ c.val * 1 + k.val - 30 < 31; omega
      | ⟨3, _⟩ => show 0 ≤ d.val * 1 + 0 ∧ d.val * 1 + 0 - 0 < 256; omega
      | ⟨4, _⟩ => show 0 ≤ e.val * 1 + 0 ∧ e.val * 1 + 0 - 0 < 512; omega
  · rw [if_neg hle, dif_neg]
    intro hin
    have h2 : 30 ≤ c.val * 1 + k.val ∧ c.val * 1 + k.val - 30 < 31 := hin 2
    omega

end Cert.ReferenceIdeal.Cumsum

end
-- ==== Proof.Ref.Point.lean ====
/-
  The reference's results read at an index, over the extended reals: each is the formula of `Math` at one head's operands.
-/
module

public import proofs.«01_k».proof.Proof.Head
public import proofs.«01_k».proof.Proof.Ref.Cumsum
public import proofs.«01_k».proof.Proof.Gen.ReferenceIdeal.Read

@[expose] public section

set_option maxRecDepth 16384

noncomputable section

namespace Cert.ReferenceIdeal.Point

open Cert.Head (row r A256 A512 AC AR)
open Cert.ReferenceIdeal Cert.ReferenceIdeal.Gen Cert.ReferenceIdeal.Read Cert.ReferenceIdeal.Cumsum
open Idealize.ShloMosaic Idealize.ShloMosaic.TcCoe

variable (x0 : A256) (x1 : AC) (x2 : A256) (x3 : AC) (x4 : A512) (x5 : AC) (x6 : A512) (x7 : AR) (b : Fin 8) (h : Fin 6)

/-- The operands of head `h` of batch `b`. -/
local notation "H" => Head.head x0 x1 x2 x3 x4 x5 x6 x7 b h

/-- q's codes, chunk by chunk. -/
theorem q_at (c : Fin 32) (s : Fin 128) (d : Fin 256) : val_main_v1 (F := Ideal) x0 (ix5 b h c s d) = x0 (ix4 b h (row c s) d) := by
  pointwise [val_main_v1]
  rfl

/-- k's codes, chunk by chunk. -/
theorem k_at (c : Fin 32) (s : Fin 128) (d : Fin 256) : val_main_v2 (F := Ideal) x2 (ix5 b h c s d) = x2 (ix4 b h (row c s) d) := by
  pointwise [val_main_v2]
  rfl

/-- v's codes, chunk by chunk. -/
theorem v_at (c : Fin 32) (s : Fin 128) (e : Fin 512) : val_main_v3 (F := Ideal) x4 (ix5 b h c s e) = x4 (ix4 b h (row c s) e) := by
  pointwise [val_main_v3]
  rfl

/-- do's codes, chunk by chunk. -/
theorem o_at (c : Fin 32) (s : Fin 128) (e : Fin 512) : val_main_v4 (F := Ideal) x6 (ix5 b h c s e) = x6 (ix4 b h (row c s) e) := by
  pointwise [val_main_v4]
  rfl

/-- do's scales, chunk by chunk. -/
theorem os_at (c : Fin 32) (t : Fin 128) : val_main_v5 (F := Ideal) x7 (ix4 b h c t) = x7 (ix3 b h (row c t)) := by
  pointwise [val_main_v5]
  rfl

/-- q with its scale. -/
theorem qq_at (c : Fin 32) (s : Fin 128) (d : Fin 256) :
    val_main_v9 (F := Ideal) x1 x0 (ix5 b h c s d) = (x0 (ix4 b h (row c s) d) * x1 (ix3 b h c) : EReal) := by
  pointwise [val_main_v9, val_main_v8, val_main_v7, val_main_v6, q_at]

/-- k with its scale. -/
theorem kk_at (c : Fin 32) (s : Fin 128) (d : Fin 256) :
    val_main_v13 (F := Ideal) x3 x2 (ix5 b h c s d) = (x2 (ix4 b h (row c s) d) * x3 (ix3 b h c) : EReal) := by
  pointwise [val_main_v13, val_main_v12, val_main_v11, val_main_v10, k_at]

/-- v with its scale. -/
theorem vv_at (c : Fin 32) (s : Fin 128) (e : Fin 512) :
    val_main_v17 (F := Ideal) x5 x4 (ix5 b h c s e) = (x4 (ix4 b h (row c s) e) * x5 (ix3 b h c) : EReal) := by
  pointwise [val_main_v17, val_main_v16, val_main_v15, val_main_v14, v_at]

/-- do with its scale. -/
theorem oo_at (c : Fin 32) (s : Fin 128) (e : Fin 512) :
    val_main_v21 (F := Ideal) x7 x6 (ix5 b h c s e) = (x6 (ix4 b h (row c s) e) * x7 (ix3 b h (row c s)) : EReal) := by
  pointwise [val_main_v21, val_main_v20, val_main_v19, val_main_v18, o_at, os_at]

/-- A chunk's contribution to the forward state. -/
theorem U_at (c : Fin 32) (d : Fin 256) (e : Fin 512) :
    val_main_v26 (F := Ideal) x3 x5 x2 x4 (ix5 b h c d e) = Math.rU H c d e := by
  pointwise [val_main_v26, val_main_v22, val_main_v25, val_main_v24, val_main_v23, k_at, v_at]
  rfl

/-- A chunk's contribution to the backward state. -/
theorem W_at (c : Fin 32) (d : Fin 256) (e : Fin 512) :
    val_main_v27 (F := Ideal) x1 x7 x0 x6 (ix5 b h c d e) = Math.rW H c d e := by
  pointwise [val_main_v27, qq_at, oo_at]
  rfl

/-- The causal mask at an index. -/
theorem mask_at (t s : Fin 128) : val_main_v39 (F := Ideal) (ix2 t s) = if s ≤ t then 1#1 else 0#1 := by
  pointwise [val_main_v39, val_main_v38, val_main_c_1, val_main_call4_v4, val_main_call4_v2, val_main_call4_v0, val_main_call4_v1, val_main_call4_c, val_main_call4_v3, val_main_call4_v5, val_main_call4_c_0]
  exact (by decide +kernel : ∀ s t : Fin 128, Scalar.select (IntOp.cmpi CmpIPredicate.sge (IntOp.addi (BitVec.ofNat 32 ↑t) 0#32) (BitVec.ofNat 32 ↑s)) 1#1 0#1 = if s ≤ t then 1#1 else 0#1) s t

/-- The masked block of do and v. -/
theorem a_at (c : Fin 32) (t s : Fin 128) :
    val_main_v48 (F := Ideal) x5 x7 x4 x6 (ix5 b h c t s) = Math.ra H c t s := by
  pointwise [val_main_v48, val_main_v47, val_main_call5_v1, val_main_call5_v2, val_main_call5_v0, val_main_cst, val_main_v46, val_main_v40, val_main_v45, val_main_v44, val_main_v41, val_main_v43, val_main_v42, mask_at, o_at, v_at, os_at]
  unfold Math.ra
  by_cases hst : s ≤ t
  · rw [if_pos hst, if_pos hst]; rfl
  · rw [if_neg hst, if_neg hst]; exact Ideal.ofBits_zero .f32

/-- The masked block of q and k. -/
theorem p_at (c : Fin 32) (t s : Fin 128) :
    val_main_v55 (F := Ideal) x1 x3 x0 x2 (ix5 b h c t s) = Math.rp H c t s := by
  pointwise [val_main_v55, val_main_v54, val_main_call6_v1, val_main_call6_v2, val_main_call6_v0, val_main_cst_2, val_main_v53, val_main_v49, val_main_v52, val_main_v51, val_main_v50, mask_at, q_at, k_at]
  unfold Math.rp
  by_cases hst : s ≤ t
  · rw [if_pos hst, if_pos hst]; rfl
  · rw [if_neg hst, if_neg hst]; exact Ideal.ofBits_zero .f32

end Cert.ReferenceIdeal.Point

end
-- ==== Proof.Ref.State.lean ====
/-
  The reference's two arrays of states read at an index, over the extended reals: the running sums of the chunks' contributions.
-/
module

public import proofs.«01_k».proof.Proof.Ref.Point
public import Idealize.ShloMosaic.Lib.KernelVsHost

@[expose] public section

set_option maxRecDepth 16384

noncomputable section

namespace Cert.ReferenceIdeal.Point

open Cert.Head (row r A256 A512 AC AR)
open Cert.ReferenceIdeal Cert.ReferenceIdeal.Gen Cert.ReferenceIdeal.Read Cert.ReferenceIdeal.Cumsum
open Idealize.ShloMosaic Idealize.ShloMosaic.TcCoe

variable (x0 : A256) (x1 : AC) (x2 : A256) (x3 : AC) (x4 : A512) (x5 : AC) (x6 : A512) (x7 : AR) (b : Fin 8) (h : Fin 6)

/-- The operands of head `h` of batch `b`. -/
local notation "H" => Head.head x0 x1 x2 x3 x4 x5 x6 x7 b h

/-- Zero as the running sums start from it. -/
theorem zero0 (i : S_.Idx) : val_main_call0_call0_v0 (F := Ideal) i = (0 : EReal) := by
  pointwise [val_main_call0_call0_v0, val_main_call0_call0_cst]

/-- Zero as the running sums start from it. -/
theorem zero2 (i : S_.Idx) : val_main_call2_call0_v0 (F := Ideal) i = (0 : EReal) := by
  pointwise [val_main_call2_call0_v0, val_main_call2_call0_cst]

/-- Zero as it fills the first chunk's forward state. -/
theorem fill1 (i : S_.Idx) : val_main_call1_v0 (F := Ideal) i = (0 : EReal) := by
  show (((0#32 : BitVec 32).toInt : ℝ) : EReal) = 0
  simp

/-- Zero as it fills the last chunk's backward state. -/
theorem fill3 (i : S_.Idx) : val_main_call3_v0 (F := Ideal) i = (0 : EReal) := by
  show (((0#32 : BitVec 32).toInt : ℝ) : EReal) = 0
  simp

/-- The contributions to the forward state of the chunks but the last. -/
theorem U31_at (c : Fin 31) (d : Fin 256) (e : Fin 512) :
    val_main_v28 (F := Ideal) x3 x5 x2 x4 (ix5 b h c d e) = Math.rU H (Math.ch c.val) d e := by
  refine Eq.trans (congrArg (val_main_v26 (F := Ideal) x3 x5 x2 x4) ?_) (U_at x0 x1 x2 x3 x4 x5 x6 x7 b h (Math.ch c.val) d e)
  funext a
  have hc := c.isLt
  refine Fin.ext ?_
  match a with
  | ⟨0, _⟩ => show 0 + b.val = b.val; omega
  | ⟨1, _⟩ => show 0 + h.val = h.val; omega
  | ⟨2, _⟩ => show 0 + c.val = c.val % 32; omega
  | ⟨3, _⟩ => show 0 + d.val = d.val; omega
  | ⟨4, _⟩ => show 0 + e.val = e.val; omega

/-- The contributions to the backward state of the chunks but the first, the last chunk first. -/
theorem W31_at (c : Fin 31) (d : Fin 256) (e : Fin 512) :
    val_main_v33 (F := Ideal) x1 x7 x0 x6 (ix5 b h c d e) = Math.rW H (Math.ch (31 - c.val)) d e := by
  refine Eq.trans (congrArg (val_main_v27 (F := Ideal) x1 x7 x0 x6) ?_) (W_at x0 x1 x2 x3 x4 x5 x6 x7 b h (Math.ch (31 - c.val)) d e)
  funext a
  have hc := c.isLt
  refine Fin.ext ?_
  match a with
  | ⟨0, _⟩ => show 0 + b.val = b.val; omega
  | ⟨1, _⟩ => show 0 + h.val = h.val; omega
  | ⟨2, _⟩ => show 1 + (31 - (c.val + 1)) = (31 - c.val) % 32; omega
  | ⟨3, _⟩ => show 0 + d.val = d.val; omega
  | ⟨4, _⟩ => show 0 + e.val = e.val; omega

/-- The running sum of the forward contributions. -/
theorem cumU_at (c : Fin 31) (d : Fin 256) (e : Fin 512) :
    val_main_v29 (F := Ideal) x3 x5 x2 x4 (ix5 b h c d e) = ∑ i ∈ Finset.range (c.val + 1), Math.rU H (Math.ch i) d e := by
  refine Eq.trans (cumsum_at (val_main_v28 (F := Ideal) x3 x5 x2 x4) _ zero0 _ _ b h c d e) (Finset.sum_congr rfl fun i hi => ?_)
  have hi := Finset.mem_range.mp hi
  have hc := c.isLt
  have e31 : (at31 i).val = i := Nat.mod_eq_of_lt (by omega)
  exact (U31_at x0 x1 x2 x3 x4 x5 x6 x7 b h (at31 i) d e).trans (by rw [e31])

/-- The running sum of the backward contributions. -/
theorem cumW_at (c : Fin 31) (d : Fin 256) (e : Fin 512) :
    val_main_v34 (F := Ideal) x1 x7 x0 x6 (ix5 b h c d e) = ∑ i ∈ Finset.range (c.val + 1), Math.rW H (Math.ch (31 - i)) d e := by
  refine Eq.trans (cumsum_at (val_main_v33 (F := Ideal) x1 x7 x0 x6) _ zero2 _ _ b h c d e) (Finset.sum_congr rfl fun i hi => ?_)
  have hi := Finset.mem_range.mp hi
  have hc := c.isLt
  have e31 : (at31 i).val = i := Nat.mod_eq_of_lt (by omega)
  exact (W31_at x0 x1 x2 x3 x4 x5 x6 x7 b h (at31 i) d e).trans (by rw [e31])

/-- The forward state before chunk `c`. -/
theorem S_at (c : Fin 32) (d : Fin 256) (e : Fin 512) :
    val_main_v31 (F := Ideal) x3 x5 x2 x4 (ix5 b h c d e) = Math.rS H c d e := by
  have hc := c.isLt
  unfold val_main_v31
  by_cases h0 : c.val = 0
  · refine (pad_apply_of_not_inside _ _ _ _ _ _ _ _ (2 : Fin 5) ?_).trans ((fill1 _).trans ?_)
    · rintro ⟨hle, -⟩
      have hle : 1 ≤ c.val := hle
      omega
    · unfold Math.rS
      rw [h0, Finset.sum_range_zero]
  · refine (pad_apply_of_inside _ _ _ _ _ _ _ _ (ix5 b h (⟨c.val - 1, by omega⟩ : Fin 31) d e) ?_).trans ?_
    · intro a
      match a with
      | ⟨0, _⟩ => show b.val = 0 + b.val * (0 + 1); omega
      | ⟨1, _⟩ => show h.val = 0 + h.val * (0 + 1); omega
      | ⟨2, _⟩ => show c.val = 1 + (c.val - 1) * (0 + 1); omega
      | ⟨3, _⟩ => show d.val = 0 + d.val * (0 + 1); omega
      | ⟨4, _⟩ => show e.val = 0 + e.val * (0 + 1); omega
    · refine (cumU_at x0 x1 x2 x3 x4 x5 x6 x7 b h ⟨c.val - 1, by omega⟩ d e).trans ?_
      unfold Math.rS
      rw [show c.val - 1 + 1 = c.val by omega]

/-- The running sums of the backward contributions, the first chunk first. -/
theorem rev_at (c : Fin 31) (d : Fin 256) (e : Fin 512) :
    val_main_v36 (F := Ideal) x1 x7 x0 x6 (ix5 b h c d e)
      = val_main_v34 (F := Ideal) x1 x7 x0 x6 (ix5 b h (⟨30 - c.val, by omega⟩ : Fin 31) d e) := by
  unfold val_main_v36 val_main_v35
  generalize val_main_v34 (F := Ideal) x1 x7 x0 x6 = y
  have hr : (⟨30 - c.val, by omega⟩ : Fin 31) = c.rev := Fin.ext (by have := c.isLt; show 30 - c.val = 31 - (c.val + 1); omega)
  rw [hr]
  pointwise []
  rfl

/-- The backward state after chunk `c`. -/
theorem D_at (c : Fin 32) (d : Fin 256) (e : Fin 512) :
    val_main_v37 (F := Ideal) x1 x7 x0 x6 (ix5 b h c d e) = Math.rD H c d e := by
  have hc := c.isLt
  unfold val_main_v37
  by_cases h0 : c.val = 31
  · refine (pad_apply_of_not_inside _ _ _ _ _ _ _ _ (2 : Fin 5) ?_).trans ((fill3 _).trans ?_)
    · rintro ⟨-, -, hlt⟩
      have hlt : (c.val - 0) / (0 + 1) < 31 := hlt
      omega
    · unfold Math.rD
      rw [h0, Nat.sub_self, Finset.sum_range_zero]
  · refine (pad_apply_of_inside _ _ _ _ _ _ _ _ (ix5 b h (⟨c.val, by omega⟩ : Fin 31) d e) ?_).trans ?_
    · intro a
      match a with
      | ⟨0, _⟩ => show b.val = 0 + b.val * (0 + 1); omega
      | ⟨1, _⟩ => show h.val = 0 + h.val * (0 + 1); omega
      | ⟨2, _⟩ => show c.val = 0 + c.val * (0 + 1); omega
      | ⟨3, _⟩ => show d.val = 0 + d.val * (0 + 1); omega
      | ⟨4, _⟩ => show e.val = 0 + e.val * (0 + 1); omega
    · refine (rev_at x0 x1 x6 x7 b h ⟨c.val, by omega⟩ d e).trans ?_
      refine (cumW_at x0 x1 x2 x3 x4 x5 x6 x7 b h ⟨30 - c.val, by omega⟩ d e).trans ?_
      unfold Math.rD
      rw [show 30 - c.val + 1 = 31 - c.val by omega]

/-- dq, chunk by chunk. -/
theorem dq5_at (c : Fin 32) (t : Fin 128) (d : Fin 256) :
    val_main_v67 (F := Ideal) x3 x5 x7 x2 x4 x6 (ix5 b h c t d) = Math.rdq H r c t d := by
  pointwise [val_main_v67, val_main_v66, val_main_v65, val_main_cst_3, val_main_v58, val_main_v56, val_main_v57, oo_at, S_at x0 x1 x2 x3 x4 x5 x6 x7, a_at x0 x1 x2 x3 x4 x5 x6 x7, kk_at]
  rfl

/-- dk, chunk by chunk. -/
theorem dk5_at (c : Fin 32) (s : Fin 128) (d : Fin 256) :
    val_main_v71 (F := Ideal) x1 x5 x7 x0 x4 x6 (ix5 b h c s d) = Math.rdk H r c s d := by
  pointwise [val_main_v71, val_main_v70, val_main_v69, val_main_cst_4, val_main_v61, val_main_v59, val_main_v60, vv_at, D_at x0 x1 x2 x3 x4 x5 x6 x7, a_at x0 x1 x2 x3 x4 x5 x6 x7, qq_at]
  rfl

/-- dv, chunk by chunk. -/
theorem dv5_at (c : Fin 32) (s : Fin 128) (e : Fin 512) :
    val_main_v75 (F := Ideal) x1 x3 x7 x0 x2 x6 (ix5 b h c s e) = Math.rdv H r c s e := by
  pointwise [val_main_v75, val_main_v74, val_main_v73, val_main_cst_5, val_main_v64, val_main_v62, val_main_v63, kk_at, D_at x0 x1 x2 x3 x4 x5 x6 x7, p_at x0 x1 x2 x3 x4 x5 x6 x7, oo_at]
  rfl

end Cert.ReferenceIdeal.Point

end
-- ==== Proof.Ref.Result.lean ====
/-
  The reference's three results after its reshape to 48 pairs of 4096 rows, over the extended reals, and that they are the kernel's
  where the scales of k, v and do are finite and not negative.
-/
module

public import proofs.«01_k».proof.Proof.Ref.State

@[expose] public section

set_option maxRecDepth 16384

noncomputable section

namespace Cert.ReferenceIdeal.Result

open Cert.Head (row r A256 A512 AC AR bat hea chunk place head)
open Cert.ReferenceIdeal Cert.ReferenceIdeal.Gen Cert.ReferenceIdeal.Read Cert.ReferenceIdeal.Point
open Idealize.ShloMosaic Idealize.ShloMosaic.TcCoe

variable (x0 : A256) (x1 : AC) (x2 : A256) (x3 : AC) (x4 : A512) (x5 : AC) (x6 : A512) (x7 : AR)

/-- Where a pair's row and column of 256 stand before the reshape. -/
theorem idx68 (j : S48x4096x256.Idx) : idx_main_v68 j = ix5 (bat (j 0)) (hea (j 0)) (chunk (j 1)) (place (j 1)) (j 2) := by
  have h0 : (j 0).val < 48 := (j 0).isLt
  have h1 : (j 1).val < 4096 := (j 1).isLt
  have h2 : (j 2).val < 256 := (j 2).isLt
  refine funext fun a => Fin.ext ?_
  match a with
  | ⟨0, _⟩ => show (((j 0).val * 4096 + (j 1).val) * 256 + (j 2).val) / 6291456 = (j 0).val / 6; omega
  | ⟨1, _⟩ => show (((j 0).val * 4096 + (j 1).val) * 256 + (j 2).val) / 1048576 % 6 = (j 0).val % 6; omega
  | ⟨2, _⟩ => show (((j 0).val * 4096 + (j 1).val) * 256 + (j 2).val) / 32768 % 32 = (j 1).val / 128; omega
  | ⟨3, _⟩ => show (((j 0).val * 4096 + (j 1).val) * 256 + (j 2).val) / 256 % 128 = (j 1).val % 128; omega
  | ⟨4, _⟩ => show (((j 0).val * 4096 + (j 1).val) * 256 + (j 2).val) % 256 = (j 2).val; omega

/-- The same for dk. -/
theorem idx72 (j : S48x4096x256.Idx) : idx_main_v72 j = ix5 (bat (j 0)) (hea (j 0)) (chunk (j 1)) (place (j 1)) (j 2) := by
  have h0 : (j 0).val < 48 := (j 0).isLt
  have h1 : (j 1).val < 4096 := (j 1).isLt
  have h2 : (j 2).val < 256 := (j 2).isLt
  refine funext fun a => Fin.ext ?_
  match a with
  | ⟨0, _⟩ => show (((j 0).val * 4096 + (j 1).val) * 256 + (j 2).val) / 6291456 = (j 0).val / 6; omega
  | ⟨1, _⟩ => show (((j 0).val * 4096 + (j 1).val) * 256 + (j 2).val) / 1048576 % 6 = (j 0).val % 6; omega
  | ⟨2, _⟩ => show (((j 0).val * 4096 + (j 1).val) * 256 + (j 2).val) / 32768 % 32 = (j 1).val / 128; omega
  | ⟨3, _⟩ => show (((j 0).val * 4096 + (j 1).val) * 256 + (j 2).val) / 256 % 128 = (j 1).val % 128; omega
  | ⟨4, _⟩ => show (((j 0).val * 4096 + (j 1).val) * 256 + (j 2).val) % 256 = (j 2).val; omega

/-- Where a pair's row and column of 512 stand before the reshape. -/
theorem idx76 (j : S48x4096x512.Idx) : idx_main_v76 j = ix5 (bat (j 0)) (hea (j 0)) (chunk (j 1)) (place (j 1)) (j 2) := by
  have h0 : (j 0).val < 48 := (j 0).isLt
  have h1 : (j 1).val < 4096 := (j 1).isLt
  have h2 : (j 2).val < 512 := (j 2).isLt
  refine funext fun a => Fin.ext ?_
  match a with
  | ⟨0, _⟩ => show (((j 0).val * 4096 + (j 1).val) * 512 + (j 2).val) / 12582912 = (j 0).val / 6; omega
  | ⟨1, _⟩ => show (((j 0).val * 4096 + (j 1).val) * 512 + (j 2).val) / 2097152 % 6 = (j 0).val % 6; omega
  | ⟨2, _⟩ => show (((j 0).val * 4096 + (j 1).val) * 512 + (j 2).val) / 65536 % 32 = (j 1).val / 128; omega
  | ⟨3, _⟩ => show (((j 0).val * 4096 + (j 1).val) * 512 + (j 2).val) / 512 % 128 = (j 1).val % 128; omega
  | ⟨4, _⟩ => show (((j 0).val * 4096 + (j 1).val) * 512 + (j 2).val) % 512 = (j 2).val; omega

/-- The reference's dq is the kernel's. -/
theorem dq_eq (hp : ∀ b h c t, 0 ≤ x7 (ix3 b h (row c t)) ∧ x7 (ix3 b h (row c t)) ≠ ⊤) :
    val_main_v68 (F := Ideal) x3 x5 x7 x2 x4 x6 = fun j : S48x4096x256.Idx =>
      Math.kdq (head x0 x1 x2 x3 x4 x5 x6 x7 (bat (j 0)) (hea (j 0))) r (chunk (j 1)) (place (j 1)) (j 2) := by
  funext j
  rw [val_main_v68_apply, idx68]
  exact (dq5_at x0 x1 x2 x3 x4 x5 x6 x7 _ _ _ _ _).trans (Math.dq_eq _ _ _ _ _ (hp _ _ _ _).1 (hp _ _ _ _).2).symm

/-- The reference's dk is the kernel's. -/
theorem dk_eq (hp : ∀ b h c, 0 ≤ x5 (ix3 b h c) ∧ x5 (ix3 b h c) ≠ ⊤) :
    val_main_v72 (F := Ideal) x1 x5 x7 x0 x4 x6 = fun j : S48x4096x256.Idx =>
      Math.kdk (head x0 x1 x2 x3 x4 x5 x6 x7 (bat (j 0)) (hea (j 0))) r (chunk (j 1)) (place (j 1)) (j 2) := by
  funext j
  rw [val_main_v72_apply, idx72]
  exact (dk5_at x0 x1 x2 x3 x4 x5 x6 x7 _ _ _ _ _).trans (Math.dk_eq _ _ _ _ _ (hp _ _ _).1 (hp _ _ _).2).symm

/-- The reference's dv is the kernel's. -/
theorem dv_eq (hp : ∀ b h c, 0 ≤ x3 (ix3 b h c) ∧ x3 (ix3 b h c) ≠ ⊤) :
    val_main_v76 (F := Ideal) x1 x3 x7 x0 x2 x6 = fun j : S48x4096x512.Idx =>
      Math.kdv (head x0 x1 x2 x3 x4 x5 x6 x7 (bat (j 0)) (hea (j 0))) r (chunk (j 1)) (place (j 1)) (j 2) := by
  funext j
  rw [val_main_v76_apply, idx76]
  exact (dv5_at x0 x1 x2 x3 x4 x5 x6 x7 _ _ _ _ _).trans (Math.dv_eq _ _ _ _ _ (hp _ _ _).1 (hp _ _ _).2).symm

end Cert.ReferenceIdeal.Result

end
-- ==== Proof.Pre.lean ====
/-
  The precondition read: the scales of k and v of every chunk, and of do of every row, are not negative and not infinite.
-/
module

public import proofs.«01_k».proof.Proof.Gen.Pre_scales_fit
public import proofs.«01_k».proof.Proof.Head
public import Idealize.ShloMosaic.Lib.Affine
public import Idealize.ShloMosaic.PureOps.Ideal.Laws

@[expose] public section

set_option maxRecDepth 16384

noncomputable section

namespace Cert.Pre

open Cert.Head (row A256 A512 AC AR)
open Cert.Pre_scales_fit
open Idealize.ShloMosaic

/-- Both of two bits are set where their conjunction is. -/
theorem both : ∀ a b : BitVec 1, IntOp.andi a b = 1#1 → a = 1#1 ∧ b = 1#1 := by decide

/-- A comparison with zero and one with infinity, read. -/
theorem fit_of (x : EReal) (h0 : BitVec.ofBool (decide (0 ≤ x)) = 1#1)
    (h1 : BitVec.ofBool (decide (x < Ideal.ofBits .f32 0x7F800000#32)) = 1#1) : 0 ≤ x ∧ x ≠ ⊤ := by
  rw [show Ideal.ofBits .f32 0x7F800000#32 = (⊤ : EReal) by simp [Ideal.ofBits, Ideal.ieee]] at h1
  refine ⟨?_, ?_⟩
  · by_contra hn
    rw [decide_eq_false hn] at h0
    exact absurd h0 (by decide)
  · rintro rfl
    rw [decide_eq_false (lt_irrefl _)] at h1
    exact absurd h1 (by decide)

/-- The precondition at chunk `c` and row `t`. -/
theorem fit (x0 : A256) (x1 : AC) (x2 : A256) (x3 : AC) (x4 : A512) (x5 : AC) (x6 : A512) (x7 : AR)
    (hp : Cert.Pre_scales_fit.fn (F := Ideal) x0 x1 x2 x3 x4 x5 x6 x7 = fun _ => 1#1)
    (b : Fin 8) (h : Fin 6) (c : Fin 32) (t : Fin 128) :
    (0 ≤ x3 (ix3 b h c) ∧ x3 (ix3 b h c) ≠ ⊤) ∧ (0 ≤ x5 (ix3 b h c) ∧ x5 (ix3 b h c) ≠ ⊤)
      ∧ (0 ≤ x7 (ix3 b h (row c t)) ∧ x7 (ix3 b h (row c t)) ≠ ⊤) := by
  have e := congrFun hp (ix4 b h c t)
  unfold Cert.Pre_scales_fit.fn Cert.Pre_scales_fit.fn_part1 at e
  revert e
  pointwise []
  intro e
  obtain ⟨e, eo⟩ := both _ _ e
  obtain ⟨eo0, eo1⟩ := both _ _ eo
  obtain ⟨e, ev1⟩ := both _ _ e
  obtain ⟨e, ev0⟩ := both _ _ e
  obtain ⟨ek0, ek1⟩ := both _ _ e
  exact ⟨fit_of _ ek0 ek1, fit_of _ ev0 ev1, fit_of _ eo0 eo1⟩

end Cert.Pre

end
-- ==== Proof.lean ====
module

public import proofs.«01_k».proof.Defs
public import proofs.«01_k».proof.Proof.Bits.Frame
public import proofs.«01_k».proof.Proof.Ideal.Frame
public import proofs.«01_k».proof.Proof.Ideal.Value
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_scales_fit
public import proofs.«01_k».proof.Proof.Ref.Region
public import proofs.«01_k».proof.Proof.Ref.Result
public import proofs.«01_k».proof.Proof.Pre

@[expose] public section

noncomputable section

namespace Cert.Proof

open Idealize.ShloMosaic Idealize.ShloMosaic.TcCoe Idealize.SL.Sem

/-- The reference's run: where the scales of k, v and do are finite and not negative, its results are the kernel's formulas at the
arguments. -/
theorem reference (m : (ℓ : Loc ReferenceIdeal.nD ReferenceIdeal.τ ReferenceIdeal.sig) → Buf (Elt Ideal) ℓ) (c : Dev ReferenceIdeal.nD)
    (x0 : Head.A256) (x1 : Head.AC) (x2 : Head.A256) (x3 : Head.AC) (x4 : Head.A512) (x5 : Head.AC) (x6 : Head.A512) (x7 : Head.AR)
    (h0 : m ((c.tc : Thread ReferenceIdeal.nD ReferenceIdeal.τ).loc ReferenceIdeal.main_arg0) = x0)
    (h1 : m ((c.tc : Thread ReferenceIdeal.nD ReferenceIdeal.τ).loc ReferenceIdeal.main_arg1) = x1)
    (h2 : m ((c.tc : Thread ReferenceIdeal.nD ReferenceIdeal.τ).loc ReferenceIdeal.main_arg2) = x2)
    (h3 : m ((c.tc : Thread ReferenceIdeal.nD ReferenceIdeal.τ).loc ReferenceIdeal.main_arg3) = x3)
    (h4 : m ((c.tc : Thread ReferenceIdeal.nD ReferenceIdeal.τ).loc ReferenceIdeal.main_arg4) = x4)
    (h5 : m ((c.tc : Thread ReferenceIdeal.nD ReferenceIdeal.τ).loc ReferenceIdeal.main_arg5) = x5)
    (h6 : m ((c.tc : Thread ReferenceIdeal.nD ReferenceIdeal.τ).loc ReferenceIdeal.main_arg6) = x6)
    (h7 : m ((c.tc : Thread ReferenceIdeal.nD ReferenceIdeal.τ).loc ReferenceIdeal.main_arg7) = x7)
    (hp : Cert.Pre_scales_fit.fn (F := Ideal) x0 x1 x2 x3 x4 x5 x6 x7 = fun _ => 1#1) :
    (ReferenceIdeal.Read.val_main_v68 (F := Ideal) (ReferenceIdeal.Value.exitV m c (Proc.devRef .tc ReferenceIdeal.main_arg3)) (ReferenceIdeal.Value.exitV m c (Proc.devRef .tc ReferenceIdeal.main_arg5))
        (ReferenceIdeal.Value.exitV m c (Proc.devRef .tc ReferenceIdeal.main_arg7)) (ReferenceIdeal.Value.exitV m c (Proc.devRef .tc ReferenceIdeal.main_v0_1))
        (ReferenceIdeal.Value.exitV m c (Proc.devRef .tc ReferenceIdeal.main_v0_2)) (ReferenceIdeal.Value.exitV m c (Proc.devRef .tc ReferenceIdeal.main_v0_3))
      = fun j => Math.kdq (Head.head x0 x1 x2 x3 x4 x5 x6 x7 (Head.bat (j 0)) (Head.hea (j 0))) Head.r (Head.chunk (j 1)) (Head.place (j 1)) (j 2))
    ∧ (ReferenceIdeal.Read.val_main_v72 (F := Ideal) (ReferenceIdeal.Value.exitV m c (Proc.devRef .tc ReferenceIdeal.main_arg1)) (ReferenceIdeal.Value.exitV m c (Proc.devRef .tc ReferenceIdeal.main_arg5))
        (ReferenceIdeal.Value.exitV m c (Proc.devRef .tc ReferenceIdeal.main_arg7)) (ReferenceIdeal.Value.exitV m c (Proc.devRef .tc ReferenceIdeal.main_v0_0))
        (ReferenceIdeal.Value.exitV m c (Proc.devRef .tc ReferenceIdeal.main_v0_2)) (ReferenceIdeal.Value.exitV m c (Proc.devRef .tc ReferenceIdeal.main_v0_3))
      = fun j => Math.kdk (Head.head x0 x1 x2 x3 x4 x5 x6 x7 (Head.bat (j 0)) (Head.hea (j 0))) Head.r (Head.chunk (j 1)) (Head.place (j 1)) (j 2))
    ∧ (ReferenceIdeal.Read.val_main_v76 (F := Ideal) (ReferenceIdeal.Value.exitV m c (Proc.devRef .tc ReferenceIdeal.main_arg1)) (ReferenceIdeal.Value.exitV m c (Proc.devRef .tc ReferenceIdeal.main_arg3))
        (ReferenceIdeal.Value.exitV m c (Proc.devRef .tc ReferenceIdeal.main_arg7)) (ReferenceIdeal.Value.exitV m c (Proc.devRef .tc ReferenceIdeal.main_v0_0))
        (ReferenceIdeal.Value.exitV m c (Proc.devRef .tc ReferenceIdeal.main_v0_1)) (ReferenceIdeal.Value.exitV m c (Proc.devRef .tc ReferenceIdeal.main_v0_3))
      = fun j => Math.kdv (Head.head x0 x1 x2 x3 x4 x5 x6 x7 (Head.bat (j 0)) (Head.hea (j 0))) Head.r (Head.chunk (j 1)) (Head.place (j 1)) (j 2)) := by
  have hf := Cert.Pre.fit x0 x1 x2 x3 x4 x5 x6 x7 hp
  rw [ReferenceIdeal.Value.exit_main_arg1, ReferenceIdeal.Value.exit_main_arg3, ReferenceIdeal.Value.exit_main_arg5, ReferenceIdeal.Value.exit_main_arg7,
    ReferenceIdeal.Value.exit_main_v0_0, ReferenceIdeal.Value.exit_main_v0_1, ReferenceIdeal.Value.exit_main_v0_2, ReferenceIdeal.Value.exit_main_v0_3,
    ReferenceIdeal.Region.reg0, ReferenceIdeal.Region.reg1, ReferenceIdeal.Region.reg2, ReferenceIdeal.Region.reg3, h0, h1, h2, h3, h4, h5, h6, h7]
  exact ⟨ReferenceIdeal.Result.dq_eq x0 x1 x2 x3 x4 x5 x6 x7 fun b h c t => (hf b h c t).2.2,
    ReferenceIdeal.Result.dk_eq x0 x1 x2 x3 x4 x5 x6 x7 fun b h c => (hf b h c 0).2.1,
    ReferenceIdeal.Result.dv_eq x0 x1 x2 x3 x4 x5 x6 x7 fun b h c => (hf b h c 0).1⟩

/-- Over the extended reals the kernel's three results are the reference's, where the scales of k, v and do are finite and not
negative. -/
theorem algebraic : Cert.algebraic_KernelIdeal_ReferenceIdeal_pre_scales_fit := by
  intro m g m' g' hpre harg
  refine ⟨fun c j => Math.kdq (KernelIdeal.Value.hdA m c (j 0)) Head.r (Head.chunk (j 1)) (Head.place (j 1)) (j 2),
    fun c j => Math.kdk (KernelIdeal.Value.hdA m c (j 0)) Head.r (Head.chunk (j 1)) (Head.place (j 1)) (j 2),
    fun c j => Math.kdv (KernelIdeal.Value.hdA m c (j 0)) Head.r (Head.chunk (j 1)) (Head.place (j 1)) (j 2), ?_, ?_⟩
  · refine (θ_run KernelIdeal.defs _ _).mono (fun _ h c => ?_)
      (θ_run_and (KernelIdeal.Run.run_main m g) (KernelIdeal.Run.unchanged m g))
    exact ⟨((h.1 c).1 8).trans (KernelIdeal.Value.final8 m c), ((h.1 c).1 9).trans (KernelIdeal.Value.final9 m c),
      ((h.1 c).1 10).trans (KernelIdeal.Value.final10 m c), h.2 c⟩
  · refine (θ_run ReferenceIdeal.defs _ _).mono (fun _ h c => ?_) (ReferenceIdeal.Value.run m' g')
    obtain ⟨a0, a1, a2, a3, a4, a5, a6, a7⟩ := harg c
    obtain ⟨e0, e1, e2⟩ := reference m' c _ _ _ _ _ _ _ _ a0 a1 a2 a3 a4 a5 a6 a7 (hpre c)
    obtain ⟨k0, k1, k2, kr⟩ := h c
    exact ⟨(k0.trans (ReferenceIdeal.Read.val_main_v68_eq _)).trans e0, (k1.trans (ReferenceIdeal.Read.val_main_v72_eq _)).trans e1,
      (k2.trans (ReferenceIdeal.Read.val_main_v76_eq _)).trans e2, kr⟩

/-- Every claim of `Defs.lean` holds. -/
theorem claim : Cert.Claim := ⟨Cert.Kernel.Gen.facts, Cert.KernelIdeal.Gen.facts, Cert.ReferenceIdeal.Gen.facts, Cert.Pre_scales_fit.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
